-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S512x512 : Shape := ⟨2, ![512, 512]⟩
abbrev S16x32x512 : Shape := ⟨3, ![16, 32, 512]⟩
abbrev S32x512 : Shape := ⟨2, ![32, 512]⟩
abbrev S15x32x512 : Shape := ⟨3, ![15, 32, 512]⟩
abbrev S15 : Shape := ⟨1, ![15]⟩
abbrev S_ : Shape := ⟨0, ![]⟩
abbrev S1x256x512 : Shape := ⟨3, ![1, 256, 512]⟩
abbrev S256x512 : Shape := ⟨2, ![256, 512]⟩
abbrev S1 : Shape := ⟨1, ![1]⟩
abbrev S1x32x512 : Shape := ⟨3, ![1, 32, 512]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S2x256x512, .bf16⟩
  | .hbm, ⟨4, _⟩ => ⟨S512x512, .f32⟩
  | .local _ .vmem, ⟨0, _⟩ => ⟨S512x256, .bf16⟩
  | .local _ .vmem, ⟨1, _⟩ => ⟨S256x32, .bf16⟩
  | .local _ .vmem, ⟨2, _⟩ => ⟨S512x1, .i32⟩
  | .local _ .vmem, ⟨3, _⟩ => ⟨S2x256x512, .bf16⟩
  | .local _ .vmem, ⟨4, _⟩ => ⟨S512x512, .f32⟩
  | .local _ .vmem, ⟨5, _⟩ => ⟨S16x32x512, .bf16⟩
  | .local _ .vmem, ⟨6, _⟩ => ⟨S32x512, .bf16⟩
  | .local _ .vmem, ⟨7, _⟩ => ⟨S15x32x512, .bf16⟩
  | .local _ .vmem, ⟨8, _⟩ => ⟨S15x32x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_82 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v100 : BitVec 32 := Scalar.addi v2 c1_i32_82
  let c16_i32_83 : BitVec 32 := 16#32
  let v101 : BitVec 32 := Scalar.remsi v100 c16_i32_83
  let c0_i32_91 : BitVec 32 := 0#32
  let c0_i32_92 : BitVec 32 := 0#32
  ![v101.toNat, 0, 0]
def k0_dev16 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_82 : BitVec 32 := 1#32
  let v100 : BitVec 32 := Scalar.addi v2 c1_i32_82
  let c16_i32_83 : BitVec 32 := 16#32
  let v101 : BitVec 32 := Scalar.remsi v100 c16_i32_83
  let c1_i32_87 : BitVec 32 := 1#32
  let v102 : BitVec 32 := Scalar.muli v101 c1_i32_87
  let v103 : BitVec 32 := Scalar.addi c0_i32_88 v102
  v103.toNat
def k0_dev17 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_93 : BitVec 32 := 2#32
  let v112 : BitVec 32 := Scalar.addi v2 c2_i32_93
  let c16_i32_94 : BitVec 32 := 16#32
  let v113 : BitVec 32 := Scalar.remsi v112 c16_i32_94
  let c1_i32_98 : BitVec 32 := 1#32
  let v114 : BitVec 32 := Scalar.muli v113 c1_i32_98
  let v115 : BitVec 32 := Scalar.addi c0_i32_99 v114
  v115.toNat
def k0_dev18 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_104 : BitVec 32 := 3#32
  let v124 : BitVec 32 := Scalar.addi v2 c3_i32_104
  let c16_i32_105 : BitVec 32 := 16#32
  let v125 : BitVec 32 := Scalar.remsi v124 c16_i32_105
  let c1_i32_109 : BitVec 32 := 1#32
  let v126 : BitVec 32 := Scalar.muli v125 c1_i32_109
  let v127 : BitVec 32 := Scalar.addi c0_i32_110 v126
  v127.toNat
def k0_dev19 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_115 : BitVec 32 := 4#32
  let v136 : BitVec 32 := Scalar.addi v2 c4_i32_115
  let c16_i32_116 : BitVec 32 := 16#32
  let v137 : BitVec 32 := Scalar.remsi v136 c16_i32_116
  let c1_i32_120 : BitVec 32 := 1#32
  let v138 : BitVec 32 := Scalar.muli v137 c1_i32_120
  let v139 : BitVec 32 := Scalar.addi c0_i32_121 v138
  v139.toNat
def k0_dev20 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_126 : BitVec 32 := 5#32
  let v148 : BitVec 32 := Scalar.addi v2 c5_i32_126
  let c16_i32_127 : BitVec 32 := 16#32
  let v149 : BitVec 32 := Scalar.remsi v148 c16_i32_127
  let c1_i32_131 : BitVec 32 := 1#32
  let v150 : BitVec 32 := Scalar.muli v149 c1_i32_131
  let v151 : BitVec 32 := Scalar.addi c0_i32_132 v150
  v151.toNat
def k0_dev21 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_137 : BitVec 32 := 6#32
  let v160 : BitVec 32 := Scalar.addi v2 c6_i32_137
  let c16_i32_138 : BitVec 32 := 16#32
  let v161 : BitVec 32 := Scalar.remsi v160 c16_i32_138
  let c1_i32_142 : BitVec 32 := 1#32
  let v162 : BitVec 32 := Scalar.muli v161 c1_i32_142
  let v163 : BitVec 32 := Scalar.addi c0_i32_143 v162
  v163.toNat
def k0_dev22 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_148 : BitVec 32 := 7#32
  let v172 : BitVec 32 := Scalar.addi v2 c7_i32_148
  let c16_i32_149 : BitVec 32 := 16#32
  let v173 : BitVec 32 := Scalar.remsi v172 c16_i32_149
  let c1_i32_153 : BitVec 32 := 1#32
  let v174 : BitVec 32 := Scalar.muli v173 c1_i32_153
  let v175 : BitVec 32 := Scalar.addi c0_i32_154 v174
  v175.toNat
def k0_dev23 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_159 : BitVec 32 := 8#32
  let v184 : BitVec 32 := Scalar.addi v2 c8_i32_159
  let c16_i32_160 : BitVec 32 := 16#32
  let v185 : BitVec 32 := Scalar.remsi v184 c16_i32_160
  let c1_i32_164 : BitVec 32 := 1#32
  let v186 : BitVec 32 := Scalar.muli v185 c1_i32_164
  let v187 : BitVec 32 := Scalar.addi c0_i32_165 v186
  v187.toNat
def k0_dev24 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_170 : BitVec 32 := 9#32
  let v196 : BitVec 32 := Scalar.addi v2 c9_i32_170
  let c16_i32_171 : BitVec 32 := 16#32
  let v197 : BitVec 32 := Scalar.remsi v196 c16_i32_171
  let c1_i32_175 : BitVec 32 := 1#32
  let v198 : BitVec 32 := Scalar.muli v197 c1_i32_175
  let v199 : BitVec 32 := Scalar.addi c0_i32_176 v198
  v199.toNat
def k0_dev25 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_181 : BitVec 32 := 10#32
  let v208 : BitVec 32 := Scalar.addi v2 c10_i32_181
  let c16_i32_182 : BitVec 32 := 16#32
  let v209 : BitVec 32 := Scalar.remsi v208 c16_i32_182
  let c1_i32_186 : BitVec 32 := 1#32
  let v210 : BitVec 32 := Scalar.muli v209 c1_i32_186
  let v211 : BitVec 32 := Scalar.addi c0_i32_187 v210
  v211.toNat
def k0_dev26 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_192 : BitVec 32 := 11#32
  let v220 : BitVec 32 := Scalar.addi v2 c11_i32_192
  let c16_i32_193 : BitVec 32 := 16#32
  let v221 : BitVec 32 := Scalar.remsi v220 c16_i32_193
  let c1_i32_197 : BitVec 32 := 1#32
  let v222 : BitVec 32 := Scalar.muli v221 c1_i32_197
  let v223 : BitVec 32 := Scalar.addi c0_i32_198 v222
  v223.toNat
def k0_dev27 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_203 : BitVec 32 := 12#32
  let v232 : BitVec 32 := Scalar.addi v2 c12_i32_203
  let c16_i32_204 : BitVec 32 := 16#32
  let v233 : BitVec 32 := Scalar.remsi v232 c16_i32_204
  let c1_i32_208 : BitVec 32 := 1#32
  let v234 : BitVec 32 := Scalar.muli v233 c1_i32_208
  let v235 : BitVec 32 := Scalar.addi c0_i32_209 v234
  v235.toNat
def k0_dev28 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_214 : BitVec 32 := 13#32
  let v244 : BitVec 32 := Scalar.addi v2 c13_i32_214
  let c16_i32_215 : BitVec 32 := 16#32
  let v245 : BitVec 32 := Scalar.remsi v244 c16_i32_215
  let c1_i32_219 : BitVec 32 := 1#32
  let v246 : BitVec 32 := Scalar.muli v245 c1_i32_219
  let v247 : BitVec 32 := Scalar.addi c0_i32_220 v246
  v247.toNat
def k0_dev29 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_225 : BitVec 32 := 14#32
  let v256 : BitVec 32 := Scalar.addi v2 c14_i32_225
  let c16_i32_226 : BitVec 32 := 16#32
  let v257 : BitVec 32 := Scalar.remsi v256 c16_i32_226
  let c1_i32_230 : BitVec 32 := 1#32
  let v258 : BitVec 32 := Scalar.muli v257 c1_i32_230
  let v259 : BitVec 32 := Scalar.addi c0_i32_231 v258
  v259.toNat
def k0_dev30 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_236 : BitVec 32 := 15#32
  let v268 : BitVec 32 := Scalar.addi v2 c15_i32_236
  let c16_i32_237 : BitVec 32 := 16#32
  let v269 : BitVec 32 := Scalar.remsi v268 c16_i32_237
  let c1_i32_241 : BitVec 32 := 1#32
  let v270 : BitVec 32 := Scalar.muli v269 c1_i32_241
  let v271 : BitVec 32 := Scalar.addi c0_i32_242 v270
  v271.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v280 : Index := Scalar.indexCast v2
  let c0_247 : Index := 0#32
  let c0_248 : Index := 0#32
  ![v280.toNat, 0, 0]
def k0_dev31 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_418 : BitVec 32 := 1#32
  let v468 : BitVec 32 := Scalar.addi v2 c1_i32_418
  let c16_i32_419 : BitVec 32 := 16#32
  let v469 : BitVec 32 := Scalar.remsi v468 c16_i32_419
  let c1_i32_423 : BitVec 32 := 1#32
  let v470 : BitVec 32 := Scalar.muli v469 c1_i32_423
  let v471 : BitVec 32 := Scalar.addi c0_i32_424 v470
  v471.toNat
def k0_dev32 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_427 : BitVec 32 := 2#32
  let v478 : BitVec 32 := Scalar.addi v2 c2_i32_427
  let c16_i32_428 : BitVec 32 := 16#32
  let v479 : BitVec 32 := Scalar.remsi v478 c16_i32_428
  let c1_i32_432 : BitVec 32 := 1#32
  let v480 : BitVec 32 := Scalar.muli v479 c1_i32_432
  let v481 : BitVec 32 := Scalar.addi c0_i32_433 v480
  v481.toNat
def k0_dev33 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_436 : BitVec 32 := 3#32
  let v488 : BitVec 32 := Scalar.addi v2 c3_i32_436
  let c16_i32_437 : BitVec 32 := 16#32
  let v489 : BitVec 32 := Scalar.remsi v488 c16_i32_437
  let c1_i32_441 : BitVec 32 := 1#32
  let v490 : BitVec 32 := Scalar.muli v489 c1_i32_441
  let v491 : BitVec 32 := Scalar.addi c0_i32_442 v490
  v491.toNat
def k0_dev34 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_445 : BitVec 32 := 4#32
  let v498 : BitVec 32 := Scalar.addi v2 c4_i32_445
  let c16_i32_446 : BitVec 32 := 16#32
  let v499 : BitVec 32 := Scalar.remsi v498 c16_i32_446
  let c1_i32_450 : BitVec 32 := 1#32
  let v500 : BitVec 32 := Scalar.muli v499 c1_i32_450
  let v501 : BitVec 32 := Scalar.addi c0_i32_451 v500
  v501.toNat
def k0_dev35 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_454 : BitVec 32 := 5#32
  let v508 : BitVec 32 := Scalar.addi v2 c5_i32_454
  let c16_i32_455 : BitVec 32 := 16#32
  let v509 : BitVec 32 := Scalar.remsi v508 c16_i32_455
  let c1_i32_459 : BitVec 32 := 1#32
  let v510 : BitVec 32 := Scalar.muli v509 c1_i32_459
  let v511 : BitVec 32 := Scalar.addi c0_i32_460 v510
  v511.toNat
def k0_dev36 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_463 : BitVec 32 := 6#32
  let v518 : BitVec 32 := Scalar.addi v2 c6_i32_463
  let c16_i32_464 : BitVec 32 := 16#32
  let v519 : BitVec 32 := Scalar.remsi v518 c16_i32_464
  let c1_i32_468 : BitVec 32 := 1#32
  let v520 : BitVec 32 := Scalar.muli v519 c1_i32_468
  let v521 : BitVec 32 := Scalar.addi c0_i32_469 v520
  v521.toNat
def k0_dev37 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_472 : BitVec 32 := 7#32
  let v528 : BitVec 32 := Scalar.addi v2 c7_i32_472
  let c16_i32_473 : BitVec 32 := 16#32
  let v529 : BitVec 32 := Scalar.remsi v528 c16_i32_473
  let c1_i32_477 : BitVec 32 := 1#32
  let v530 : BitVec 32 := Scalar.muli v529 c1_i32_477
  let v531 : BitVec 32 := Scalar.addi c0_i32_478 v530
  v531.toNat
def k0_dev38 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_481 : BitVec 32 := 8#32
  let v538 : BitVec 32 := Scalar.addi v2 c8_i32_481
  let c16_i32_482 : BitVec 32 := 16#32
  let v539 : BitVec 32 := Scalar.remsi v538 c16_i32_482
  let c1_i32_486 : BitVec 32 := 1#32
  let v540 : BitVec 32 := Scalar.muli v539 c1_i32_486
  let v541 : BitVec 32 := Scalar.addi c0_i32_487 v540
  v541.toNat
def k0_dev39 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_490 : BitVec 32 := 9#32
  let v548 : BitVec 32 := Scalar.addi v2 c9_i32_490
  let c16_i32_491 : BitVec 32 := 16#32
  let v549 : BitVec 32 := Scalar.remsi v548 c16_i32_491
  let c1_i32_495 : BitVec 32 := 1#32
  let v550 : BitVec 32 := Scalar.muli v549 c1_i32_495
  let v551 : BitVec 32 := Scalar.addi c0_i32_496 v550
  v551.toNat
def k0_dev40 (d0 : Dev nD) : Nat :=
  let c0_i32_505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_499 : BitVec 32 := 10#32
  let v558 : BitVec 32 := Scalar.addi v2 c10_i32_499
  let c16_i32_500 : BitVec 32 := 16#32
  let v559 : BitVec 32 := Scalar.remsi v558 c16_i32_500
  let c1_i32_504 : BitVec 32 := 1#32
  let v560 : BitVec 32 := Scalar.muli v559 c1_i32_504
  let v561 : BitVec 32 := Scalar.addi c0_i32_505 v560
  v561.toNat
def k0_dev41 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_508 : BitVec 32 := 11#32
  let v568 : BitVec 32 := Scalar.addi v2 c11_i32_508
  let c16_i32_509 : BitVec 32 := 16#32
  let v569 : BitVec 32 := Scalar.remsi v568 c16_i32_509
  let c1_i32_513 : BitVec 32 := 1#32
  let v570 : BitVec 32 := Scalar.muli v569 c1_i32_513
  let v571 : BitVec 32 := Scalar.addi c0_i32_514 v570
  v571.toNat
def k0_dev42 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_517 : BitVec 32 := 12#32
  let v578 : BitVec 32 := Scalar.addi v2 c12_i32_517
  let c16_i32_518 : BitVec 32 := 16#32
  let v579 : BitVec 32 := Scalar.remsi v578 c16_i32_518
  let c1_i32_522 : BitVec 32 := 1#32
  let v580 : BitVec 32 := Scalar.muli v579 c1_i32_522
  let v581 : BitVec 32 := Scalar.addi c0_i32_523 v580
  v581.toNat
def k0_dev43 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_526 : BitVec 32 := 13#32
  let v588 : BitVec 32 := Scalar.addi v2 c13_i32_526
  let c16_i32_527 : BitVec 32 := 16#32
  let v589 : BitVec 32 := Scalar.remsi v588 c16_i32_527
  let c1_i32_531 : BitVec 32 := 1#32
  let v590 : BitVec 32 := Scalar.muli v589 c1_i32_531
  let v591 : BitVec 32 := Scalar.addi c0_i32_532 v590
  v591.toNat
def k0_dev44 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_535 : BitVec 32 := 14#32
  let v598 : BitVec 32 := Scalar.addi v2 c14_i32_535
  let c16_i32_536 : BitVec 32 := 16#32
  let v599 : BitVec 32 := Scalar.remsi v598 c16_i32_536
  let c1_i32_540 : BitVec 32 := 1#32
  let v600 : BitVec 32 := Scalar.muli v599 c1_i32_540
  let v601 : BitVec 32 := Scalar.addi c0_i32_541 v600
  v601.toNat
def k0_dev45 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_544 : BitVec 32 := 15#32
  let v608 : BitVec 32 := Scalar.addi v2 c15_i32_544
  let c16_i32_545 : BitVec 32 := 16#32
  let v609 : BitVec 32 := Scalar.remsi v608 c16_i32_545
  let c1_i32_549 : BitVec 32 := 1#32
  let v610 : BitVec 32 := Scalar.muli v609 c1_i32_549
  let v611 : BitVec 32 := Scalar.addi c0_i32_550 v610
  v611.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v618 : BitVec 32 := Scalar.muli v2 c32_i32
  let v619 : Index := Scalar.indexCast v618
  let c0_553 : Index := 0#32
  ![v619.toNat, 0]
def k0_off4 (d0 : Dev nD) (c15_i32_561 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v627 : BitVec 32 := Scalar.addi v2 c15_i32_561
  let c16_i32_562 : BitVec 32 := 16#32
  let v628 : BitVec 32 := Scalar.remsi v627 c16_i32_562
  let c32_i32_566 : BitVec 32 := 32#32
  let v632 : BitVec 32 := Scalar.muli v628 c32_i32_566
  let v633 : Index := Scalar.indexCast v632
  let c0_567 : Index := 0#32
  ![v633.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S512 : Shape := ⟨1, ![512]⟩
abbrev S1 : Shape := ⟨1, ![1]⟩
abbrev S_ : Shape := ⟨0, ![]⟩
abbrev S1x1 : Shape := ⟨2, ![1, 1]⟩
abbrev S512x256x512 : Shape := ⟨3, ![512, 256, 512]⟩
abbrev S512x512 : Shape := ⟨2, ![512, 512]⟩

abbrev nBuf : Space → Nat
  | .hbm => 24
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S32x256x512, .bf16⟩
  | .hbm, ⟨4, _⟩ => ⟨S32x256x512, .f32⟩
  | .hbm, ⟨5, _⟩ => ⟨S512, .i32⟩
  | .hbm, ⟨6, _⟩ => ⟨S512x1, .i32⟩
  | .hbm, ⟨7, _⟩ => ⟨S1, .i32⟩
  | .hbm, ⟨8, _⟩ => ⟨S_, .i32⟩
  | .hbm, ⟨9, _⟩ => ⟨S512x1, .i32⟩
  | .hbm, ⟨10, _⟩ => ⟨S512x1, .i1⟩
  | .hbm, ⟨11, _⟩ => ⟨S1x1, .i32⟩
  | .hbm, ⟨12, _⟩ => ⟨S512x1, .i32⟩
  | .hbm, ⟨13, _⟩ => ⟨S512x1, .i1⟩
  | .hbm, ⟨14, _⟩ => ⟨S512x1, .i1⟩
  | .hbm, ⟨15, _⟩ => ⟨S_, .i1⟩
  | .hbm, ⟨16, _⟩ => ⟨S512, .i1⟩
  | .hbm, ⟨17, _⟩ => ⟨S512x256x512, .f32⟩
  | .hbm, ⟨18, _⟩ => ⟨S512x256x512, .i1⟩
  | .hbm, ⟨19, _⟩ => ⟨S_, .f32⟩
  | .hbm, ⟨20, _⟩ => ⟨S512x256x512, .f32⟩
  | .hbm, ⟨21, _⟩ => ⟨S512x256x512, .f32⟩
  | .hbm, ⟨22, _⟩ => ⟨S512x256, .f32⟩
  | .hbm, ⟨23, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Ref.lean ====
/-
The reference read at an element: row `t` of the result is row `t` of the tokens times the matrix of the expert its index names,
and zero where the index names none.
-/
module

public import Idealize.ShloMosaic.Lib.Pointwise
public import proofs.«01_k».proof.Proof.Gen.ReferenceIdeal
public import proofs.«01_k».proof.Proof.Gen.ReferenceIdeal.Run

@[expose] public section

set_option maxRecDepth 16384

noncomputable section

namespace Cert.ReferenceIdealProof

open Cert.ReferenceIdeal Cert.ReferenceIdeal.Gen
open Idealize.ShloMosaic

/-! ## The result as one expression -/

/-- The experts' indices as the gather takes them. -/
def startV (R : IVec S512x1 32) : IVec S512x1 32 :=
  broadcastInDim S512x1 ![0] bcast_S512_S512x1_0 (shapeCast _ R shapeCasts_S512x1_S512)

/-- One bit for each token: its index is an expert's. -/
def maskV (R : IVec S512x1 32) : IVec S512 1 :=
  Host.reduce IntOp.andi (andi (cmpi .sge (startV R) (broadcastInDim S512x1 ![] bcast_S_S512x1 (constantI S_ 32 0#32)))
    (cmpi .sle (startV R) (broadcastInDim S512x1 ![0, 1] bcast_S1x1_S512x1_0_1 (broadcastInDim S1x1 ![1] bcast_S1_S1x1_1 (constantI S1 32 31#32)))))
    (constantI S_ 1 1#1) reducesTo_S512x1_S512_d1 h_S_

/-- For each token the matrix at its index, the index brought into range. -/
def gatV (R : IVec S512x1 32) (W : FVec Ideal S32x256x512 .bf16) : FVec Ideal S512x256x512 .f32 :=
  Host.gather gather_S32x256x512_S512x1_S512x256x512_12_0_n_n_0_1_1256512 (extf .f32 W bitsLt_bf16_f32) (startV R)

/-- What the reference computes. -/
def refV (X : FVec Ideal S512x256 .bf16) (R : IVec S512x1 32) (W : FVec Ideal S32x256x512 .bf16) : FVec Ideal S512x512 .f32 :=
  Host.dotGeneral dot_S512x256_S512x256x512_S512x512_1_1_n_2_0_0 none (extf .f32 X bitsLt_bf16_f32)
    (select (broadcastInDim S512x256x512 ![0] bcast_S512_S512x256x512_0 (maskV R)) (gatV R W)
      (broadcastInDim S512x256x512 ![] bcast_S_S512x256x512 (constant S_ .f32 0x00000000#32)))

/-! ## At an element -/

theorem startV_apply (R : IVec S512x1 32) (t : Fin 512) (z : Fin 1) : startV R (ix2 t z) = R (ix2 t 0) := by
  obtain rfl : z = 0 := Subsingleton.elim _ _
  pointwise [startV]

theorem maskV_apply (R : IVec S512x1 32) (t : Fin 512) :
    maskV R (ix1 t) = IntOp.andi (IntOp.andi (IntOp.cmpi .sge (R (ix2 t 0)) 0#32) (IntOp.cmpi .sle (R (ix2 t 0)) 31#32)) 1#1 := by
  pointwise [maskV, startV_apply]
  rw [Finset.univ_unique]
  exact Finset.fold_singleton ..

/-- The two comparisons together say that the word is a number below 32. -/
theorem inRange_word (r : BitVec 32) :
    IntOp.andi (IntOp.andi (IntOp.cmpi .sge r 0#32) (IntOp.cmpi .sle r 31#32)) 1#1 = if r.toNat < 32 then 1#1 else 0#1 := by
  have h0 : IntOp.cmpi .sge r 0#32 = BitVec.ofBool (decide (0 ≤ r.toInt)) := rfl
  have h1 : IntOp.cmpi .sle r 31#32 = BitVec.ofBool (decide (r.toInt ≤ 31)) := rfl
  have hi := BitVec.toInt_eq_toNat_cond r
  have hl := r.isLt
  rw [h0, h1]
  by_cases h : r.toNat < 32
  · have a : 0 ≤ r.toInt := by split at hi <;> omega
    have b : r.toInt ≤ 31 := by split at hi <;> omega
    simp only [a, b, h, decide_true, if_true]; rfl
  · rw [if_neg h]
    by_cases a : 0 ≤ r.toInt
    · have b : ¬ r.toInt ≤ 31 := by split at hi <;> omega
      simp only [a, b, decide_true, decide_false]; rfl
    · by_cases b : r.toInt ≤ 31 <;> simp only [a, b, decide_true, decide_false] <;> rfl

theorem gatV_apply (R : IVec S512x1 32) (W : FVec Ideal S32x256x512 .bf16) (t : Fin 512) (k : Fin 256) (o : Fin 512) :
    gatV R W (ix3 t k o) = W (ix3 ⟨min (R (ix2 t 0)).toInt.toNat 31, by omega⟩ k o) := by
  unfold gatV Host.gather
  show W _ = _
  congr 1
  funext a
  refine Fin.ext ?_
  have h := startV_apply R t 0
  generalize startV R = Z at h ⊢
  show GatherDims.start _ _ Z a + GatherDims.batchCoord _ _ a + GatherDims.offCoord _ _ a = _
  rw [GatherDims.batchCoord_eq_zero _ _ _ List.not_mem_nil]
  match a with
  | ⟨0, _⟩ =>
    have e : gather_S32x256x512_S512x1_S512x256x512_12_0_n_n_0_1_1256512.siIdx (ix3 t k o) ⟨0, by decide⟩ = ix2 t 0 := by
      funext b; refine Fin.ext ?_
      match b with
      | ⟨0, _⟩ => rfl
      | ⟨1, _⟩ => rfl
    rw [GatherDims.offCoord_eq_zero _ _ _ (fun h => ((GatherDims.mem_sKept _ _).mp h).1 (List.mem_singleton.mpr rfl))]
    refine (?_ : GatherDims.start gather_S32x256x512_S512x1_S512x256x512_12_0_n_n_0_1_1256512 (ix3 t k o) Z (0 : Fin 3) = min (R (ix2 t 0)).toInt.toNat 31)
    unfold GatherDims.start
    refine (dif_pos (show (0 : Fin 3) ∈ [(0 : Fin 3)] from List.mem_singleton.mpr rfl)).trans ?_
    exact congrArg (fun r : BitVec 32 => min r.toInt.toNat 31) ((congrArg Z e).trans h)
  | ⟨1, _⟩ =>
    refine (congrArg₂ (fun u v : ℕ => u + 0 + v) (dif_neg (show (1 : Fin 3) ∉ [(0 : Fin 3)] by decide))
      (dif_pos ((GatherDims.mem_sKept _ _).mpr ⟨show (1 : Fin 3) ∉ [(0 : Fin 3)] by decide, List.not_mem_nil⟩))).trans (Nat.zero_add _)
  | ⟨2, _⟩ =>
    refine (congrArg₂ (fun u v : ℕ => u + 0 + v) (dif_neg (show (2 : Fin 3) ∉ [(0 : Fin 3)] by decide))
      (dif_pos ((GatherDims.mem_sKept _ _).mpr ⟨show (2 : Fin 3) ∉ [(0 : Fin 3)] by decide, List.not_mem_nil⟩))).trans (Nat.zero_add _)

/-- Row `t`: the token times the matrix its index names, zero if it names none. -/
theorem refV_apply (X : FVec Ideal S512x256 .bf16) (R : IVec S512x1 32) (W : FVec Ideal S32x256x512 .bf16) (t o : Fin 512) :
    refV X R W (ix2 t o) = if h : (R (ix2 t 0)).toNat < 32 then
      ∑ k : Fin 256, X (ix2 t k) * W (ix3 (⟨(R (ix2 t 0)).toNat, h⟩ : Fin 32) k o) else 0 := by
  pointwise [refV]
  simp only [maskV_apply, inRange_word, gatV_apply]
  by_cases h : (R (ix2 t 0)).toNat < 32
  · have hi : (R (ix2 t 0)).toInt = ((R (ix2 t 0)).toNat : ℤ) := by rw [BitVec.toInt_eq_toNat_cond, if_pos (by omega)]
    have e : (⟨min (R (ix2 t 0)).toInt.toNat 31, by omega⟩ : Fin 32) = ⟨(R (ix2 t 0)).toNat, h⟩ :=
      Fin.ext (by show min _ _ = _; rw [hi, Int.toNat_natCast]; exact Nat.min_eq_left (by omega))
    rw [dif_pos h, if_pos h]
    simp only [e]
    rfl
  · rw [dif_neg h, if_neg h]
    exact Finset.sum_const_zero

end Cert.ReferenceIdealProof

end
-- ==== Proof.Cells.lean ====
/-
The cells of the exchange and what each of them promises.

Sixteen devices. Device `c` names its fifteen partners by a slot number `e`: `peer c e` is the device `e + 1` places further
round. Every device has one barrier semaphore and four arrays of fifteen transfer semaphores. Each of these 61 cells has a single
round.

* The barrier of `c` is raised once by every partner. The raise of `peer c e` hands `c` the two landing slots number `e` of that
  partner: `c` is the only device that ever writes them. `c` waits once, for fifteen.
* Receive cell `e` of the first exchange on `c` is raised by the transfer of the device `src c e` whose partner number `e` is `c`. It
  hands over landing slot `e`, holding that device's partial products for the rows `c` owns.
* Send cell `e` of the first exchange returns to `c` the chunk of its partial products it was sending.
* Receive cell `e` of the second exchange hands over landing slot `e` of the second buffer, holding the summed rows of `src c e`.
* Send cell `e` of the second exchange returns the `e`-th share of the source of these fifteen transfers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring.FamCut
public import Idealize.ShloMosaic.Lib.ValueLayout
public import Idealize.ShloMosaic.Lib.SparseCore.ProtocolKit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Partners -/

set_option backward.proofsInPublic true in
/-- The device `e + 1` places further round. -/
def peer (c : Dev nD) (e : Fin 15) : Dev nD := ⟨(c.val + e.val + 1) % 16, Nat.mod_lt _ (by decide)⟩
set_option backward.proofsInPublic true in
/-- The device `e + 1` places back: its partner number `e` is `c`. -/
def src (c : Dev nD) (e : Fin 15) : Dev nD := ⟨(c.val + (15 - e.val)) % 16, Nat.mod_lt _ (by decide)⟩
set_option backward.proofsInPublic true in
/-- The slot number under which a partner knows the device that knows it as `e`. -/
def rev (e : Fin 15) : Fin 15 := ⟨14 - e.val, by omega⟩

theorem rev_rev (e : Fin 15) : rev (rev e) = e := by unfold rev; ext; simp only []; omega
theorem peer_src (c : Dev nD) (e : Fin 15) : peer (src c e) e = c := by
  have := c.isLt; have : c.val < 16 := this
  unfold peer src; ext; simp only []; omega
theorem src_peer (c : Dev nD) (e : Fin 15) : src (peer c e) e = c := by
  have := c.isLt; have : c.val < 16 := this
  unfold peer src; ext; simp only []; omega
theorem peer_peer (c : Dev nD) (e : Fin 15) : peer (peer c e) (rev e) = c := by
  have := c.isLt; have : c.val < 16 := this
  unfold peer rev; ext; simp only []; omega
theorem peer_rev (c : Dev nD) (e : Fin 15) : peer c (rev e) = src c e := by
  have := c.isLt; have : c.val < 16 := this
  unfold peer rev src; ext; simp only []; omega
theorem peer_ne (c : Dev nD) (e : Fin 15) : peer c e ≠ c := by
  have := c.isLt; have : c.val < 16 := this
  unfold peer; intro h; have := congrArg Fin.val h; simp only [] at this; omega
theorem peer_inj (c : Dev nD) : Function.Injective (peer c) := by
  have := c.isLt; have : c.val < 16 := this
  intro a b h; unfold peer at h; have := congrArg Fin.val h; simp only [] at this; ext; omega

/-! ## The cells -/

/-- The runtime's barrier semaphore. -/
abbrev barS : Sem sig := (SemArray.scalar (sig.barrier 0 rfl) : Sems sig S_).sem

set_option backward.proofsInPublic true in
/-- Transfer semaphore `e` of array `j`: 0 the sends and 1 the receipts of the first exchange, 2 and 3 those of the second. -/
def dq (j : Fin 4) (e : Fin 15) : DmaSem sig := ⟨5 + (e.val + 15 * j.val), show _ < 65 by omega⟩

/-- The kinds of cell: the barrier, and the transfer semaphores. -/
abbrev Kid : Type := Option (Fin 4 × Fin 15)

abbrev csem : Kid → SemLoc sig
  | none => .reg barS
  | some (j, e) => .dma (dq j e)

abbrev kcell (ck : Dev nD × Kid) : GSem nD τ sig := ((ck.1 : Thread nD τ), csem ck.2)
abbrev bcell (c : Dev nD) : GSem nD τ sig := ((c : Thread nD τ), .reg barS)
abbrev dcell (c : Dev nD) (j : Fin 4) (e : Fin 15) : GSem nD τ sig := ((c : Thread nD τ), .dma (dq j e))

/-- Which kind a semaphore is, if it is one of the exchange's. -/
def kidOf : SemLoc sig → Option Kid
  | .reg s => if s = barS then some none else none
  | .dma q => if h : 5 ≤ q.val then
      some (some (⟨(q.val - 5) / 15, by have : q.val < 65 := q.isLt; omega⟩, ⟨(q.val - 5) % 15, Nat.mod_lt _ (by decide)⟩)) else none

theorem kidOf_bar : kidOf (.reg barS) = some none := by
  show (if barS = barS then some none else none) = _
  exact if_pos rfl
theorem kidOf_dq (j : Fin 4) (e : Fin 15) : kidOf (.dma (dq j e)) = some (some (j, e)) := by
  have h5 : 5 ≤ (dq j e).val := by unfold dq; simp only []; omega
  show (if h : 5 ≤ (dq j e).val then some (some (_, _)) else none) = _
  rw [dif_pos h5]
  congr 2
  refine Prod.ext (Fin.ext ?_) (Fin.ext ?_)
  · show (5 + (e.val + 15 * j.val) - 5) / 15 = j.val; omega
  · show (5 + (e.val + 15 * j.val) - 5) % 15 = e.val; omega
theorem kidOf_csem (k : Kid) : kidOf (csem k) = some k := by
  rcases k with _ | ⟨j, e⟩
  · exact kidOf_bar
  · exact kidOf_dq j e

theorem kcell_injective : Function.Injective (kcell : Dev nD × Kid → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← kidOf_csem k, ← kidOf_csem k', h2]
  rw [h1, Option.some.inj h3]

/-! ## The buffers, their slots, and the contents handed over -/

abbrev xM : Memref sig .tc .vmem S512x256 .bf16 := Memref.whole cc0_stg0_0
abbrev wrM : Memref sig .tc .vmem S256x32 .bf16 := Memref.whole cc0_stg1_0
abbrev riM : Memref sig .tc .vmem S512x1 .i32 := Memref.whole cc0_stg2_0
abbrev ewM : Memref sig .tc .vmem S2x256x512 .bf16 := Memref.whole cc0_stg3_0
abbrev outM : Memref sig .tc .vmem S512x512 .f32 := Memref.whole cc0_stg4_0
abbrev partM : Memref sig .tc .vmem S16x32x512 .bf16 := Memref.whole cc0_scratch0
abbrev srcM : Memref sig .tc .vmem S32x512 .bf16 := Memref.whole cc0_scratch1
abbrev rsM : Memref sig .tc .vmem S15x32x512 .bf16 := Memref.whole cc0_scratch2
abbrev agM : Memref sig .tc .vmem S15x32x512 .bf16 := Memref.whole cc0_scratch3

/-- What the staging buffer of operand `w` holds while the body runs: the device's own argument. -/
def xstg (c : Dev nD) : (cc0_stg0_0 : Ref sig .tc).ty.Contents (Elt F) :=
  (win0_0.blk (0 : Fin 1)).view.read (Elt F) ((s₀ m ρ).mem ((c : Thread nD τ).loc main_arg0))
def wrstg (c : Dev nD) : (cc0_stg1_0 : Ref sig .tc).ty.Contents (Elt F) :=
  (win0_1.blk (0 : Fin 1)).view.read (Elt F) ((s₀ m ρ).mem ((c : Thread nD τ).loc main_arg1))
def ristg (c : Dev nD) : (cc0_stg2_0 : Ref sig .tc).ty.Contents (Elt F) :=
  (win0_2.blk (0 : Fin 1)).view.read (Elt F) ((s₀ m ρ).mem ((c : Thread nD τ).loc main_arg2))
def ewstg (c : Dev nD) : (cc0_stg3_0 : Ref sig .tc).ty.Contents (Elt F) :=
  (win0_3.blk (0 : Fin 1)).view.read (Elt F) ((s₀ m ρ).mem ((c : Thread nD τ).loc main_arg3))

/-- The two experts device `c` holds, as the body reads them. -/
def expertV (c : Dev nD) (k : Fin 2) : Vec F S1x256x512 .bf16 := fun i => ewstg m ρ c (ix3 k (i 1) (i 2))

/-- The device's number as the body computes it. -/
def meW (c : Dev nD) : BitVec 32 := Scalar.remsi (Scalar.divsi (Dev.word c) 1#32) 16#32

/-- The partial products of device `c`: every token against the two experts it holds. -/
@[irreducible] def partialV (c : Dev nD) : FVec F S16x32x512 .bf16 :=
  k0_pay4 (meW c) (k0_pay1 (xstg m ρ c)) k0_pay2 (k0_pay3 (meW c) (xstg m ρ c) (ristg m ρ c)) (expertV m ρ c 0) (ristg m ρ c) (expertV m ρ c 1)

/-- Device `p`'s partial products for the rows device `c` owns, as one slot. -/
def chunkOf (p c : Dev nD) : Vec F S1x32x512 .bf16 := fun i => partialV m ρ p (ix3 (n0 := 16) c (i 1) (i 2))

/-- The running sum on device `c`: its own rows, then those received in slots `0, 1, …`. -/
def accV (c : Dev nD) : ℕ → FVec F S32x512 .f32
  | 0 => k0_pay5 (chunkOf m ρ c c)
  | n + 1 => addf (accV c n) (k0_pay5 (if h : n < 15 then chunkOf m ρ (src c ⟨n, h⟩) c else chunkOf m ρ c c))

/-- The summed rows of device `c`, as sent round. -/
@[irreducible] def agV (c : Dev nD) : FVec F S32x512 .bf16 := shapeCast S32x512 (truncf .bf16 (accV m ρ c 15) bitsLt_bf16_f32) shapeCasts_S32x512_S32x512
def agSlotOf (p : Dev nD) : Vec F S1x32x512 .bf16 := fun i => agV m ρ p (ix2 (i 1) (i 2))

/-- The rows of device `e` in the result of device `c`. -/
def rowsV (c e : Dev nD) : FVec F S32x512 .f32 := if e = c then accV m ρ c 15 else k0_pay5 (agSlotOf m ρ e)

set_option backward.proofsInPublic true in
/-- The device whose rows row `r` is among, and its number there. -/
def rowDev (r : Fin 512) : Dev nD := ⟨r.val / 32, show _ < 16 by omega⟩
set_option backward.proofsInPublic true in
def rowIn (r : Fin 512) : Fin 32 := ⟨r.val % 32, Nat.mod_lt _ (by decide)⟩

/-- The first landing buffer of `c` when every transfer into it has landed. -/
def rsFinal (c : Dev nD) : (cc0_scratch2 : Ref sig .tc).ty.Contents (Elt F) :=
  fun i : S15x32x512.Idx => partialV m ρ (src c (i 0)) (ix3 (n0 := 16) c (i 1) (i 2))
/-- The second landing buffer of `c` when every transfer into it has landed. -/
def agFinal (c : Dev nD) : (cc0_scratch3 : Ref sig .tc).ty.Contents (Elt F) :=
  fun i : S15x32x512.Idx => agV m ρ (src c (i 0)) (ix2 (i 1) (i 2))
/-- The result of device `c`. -/
def outFinal (c : Dev nD) : (cc0_stg4_0 : Ref sig .tc).ty.Contents (Elt F) :=
  fun i : S512x512.Idx => rowsV m ρ c (rowDev (i 0)) (ix2 (rowIn (i 0)) (i 1))

abbrev slotSet (n : ℕ) (e : Fin n) : Finset (⟨3, ![n, 32, 512]⟩ : Shape).Idx := Finset.univ.filter fun i => (i 0).val = e.val

abbrev partL (c : Dev nD) : Loc nD τ sig := (c : Thread nD τ).loc cc0_scratch0
abbrev srcL (c : Dev nD) : Loc nD τ sig := (c : Thread nD τ).loc cc0_scratch1
abbrev rsL (c : Dev nD) : Loc nD τ sig := (c : Thread nD τ).loc cc0_scratch2
abbrev agL (c : Dev nD) : Loc nD τ sig := (c : Thread nD τ).loc cc0_scratch3
abbrev outL (c : Dev nD) : Loc nD τ sig := (c : Thread nD τ).loc cc0_stg4_0

/-- Slot `e` of the first landing buffer; of the second; chunk `d` of the partial products. -/
def rsPts (c : Dev nD) (e : Fin 15) (f : Buf (Elt F) (rsL c)) : sProp 𝕄 := rsL c ↦[slotSet 15 e]{fullShare} f
def agPts (c : Dev nD) (e : Fin 15) (f : Buf (Elt F) (agL c)) : sProp 𝕄 := agL c ↦[slotSet 15 e]{fullShare} f
def partPts (c d : Dev nD) : sProp 𝕄 := partL c ↦[slotSet 16 d]{fullShare} (partialV m ρ c : Buf (Elt F) (partL c))
/-- Share `e` of the source of the second exchange. -/
def srcPts (c : Dev nD) (e : Fin 15) : sProp 𝕄 := srcL c ↦{Transfers.shareTok fullShare 15 e} (agV m ρ c : Buf (Elt F) (srcL c))

omit [FloatOps F] in
instance rsPts_storable (c e f) : BI.Storable (upEmb : UEmb _ 𝕄) (rsPts (F := F) c e f) := by unfold rsPts; infer_instance
omit [FloatOps F] in
instance agPts_storable (c e f) : BI.Storable (upEmb : UEmb _ 𝕄) (agPts (F := F) c e f) := by unfold agPts; infer_instance
instance partPts_storable (c d) : BI.Storable (upEmb : UEmb _ 𝕄) (partPts m ρ c d) := by unfold partPts; infer_instance
instance srcPts_storable (c e) : BI.Storable (upEmb : UEmb _ 𝕄) (srcPts m ρ c e) := by unfold srcPts; infer_instance

/-! ## The schedule -/

/-- What one transfer of a slot raises its semaphores by. -/
def N : ℕ := (srcM : Memref sig .tc .vmem S32x512 .bf16).view.dmaCredit
theorem N_pos : 0 < N := View.dmaCredit_pos _ (by decide)

/-- What partner `e` hands `c` at the barrier: the two landing slots `c` is to fill there. -/
def barPay (c : Dev nD) (e : Fin 15) : sProp 𝕄 := iprop((∃ f, rsPts (peer c e) e f) ∗ ∃ f, agPts (peer c e) e f)

/-- What transfer cell `e` of array `j` hands `c`. -/
def dmaPay (c : Dev nD) (j : Fin 4) (e : Fin 15) : sProp 𝕄 :=
  match j with
  | 0 => partPts m ρ c (peer c e)
  | 1 => rsPts c e (rsFinal m ρ c)
  | 2 => srcPts m ρ c e
  | 3 => agPts c e (agFinal m ρ c)

def kidDuties : Option Kid → Finset (Fin 15)
  | none => ∅
  | some none => Finset.univ
  | some (some _) => {0}
def kidPay (c : Dev nD) (d : Fin 15) : Option Kid → sProp 𝕄
  | none => iprop(emp)
  | some none => barPay c d
  | some (some (j, e)) => dmaPay m ρ c j e

/-- One round: the barrier's fifteen raises of one, named by the waiting device's slot numbers, and one raise for each transfer cell. -/
def Rd : Rounds.Schedule (GSem nD τ sig) (Fin 15) 𝕄 where
  duties g r := if r = 0 ∧ g.1.2 = .tc then kidDuties (kidOf g.2) else ∅
  unitless _ := False
  amount g _ _ := if g.2 = .reg barS then 1 else N
  payload g _ d := kidPay m ρ g.1.1 d (kidOf g.2)
  amount_pos g _ _ _ := by
    by_cases h : g.2 = .reg barS
    · rw [if_pos h]; exact Nat.one_pos
    · rw [if_neg h]; exact N_pos

instance Rd_payload_storable (g : GSem nD τ sig) (r : ℕ) (d : Fin 15) :
    BI.Storable (upEmb : UEmb _ 𝕄) ((Rd (F := F) m ρ).payload g r d) := by
  show BI.Storable upEmb (kidPay m ρ g.1.1 d (kidOf g.2))
  unfold kidPay barPay dmaPay
  (repeat' split) <;> infer_instance

section Sched
variable (c : Dev nD) (j : Fin 4) (e d : Fin 15)

theorem duties_bar : (Rd (F := F) m ρ).duties (bcell c) 0 = Finset.univ := by
  show (if (0 : ℕ) = 0 ∧ (bcell c).1.2 = .tc then kidDuties (kidOf (.reg barS)) else ∅) = _
  rw [if_pos ⟨rfl, rfl⟩, kidOf_bar]; rfl
theorem duties_dma : (Rd (F := F) m ρ).duties (dcell c j e) 0 = {0} := by
  show (if (0 : ℕ) = 0 ∧ (dcell c j e).1.2 = .tc then kidDuties (kidOf (.dma (dq j e))) else ∅) = _
  rw [if_pos ⟨rfl, rfl⟩, kidOf_dq]; rfl
theorem duties_later (g : GSem nD τ sig) : ∀ r, 1 ≤ r → (Rd (F := F) m ρ).duties g r = ∅ := fun r hr =>
  if_neg fun h => by omega
theorem amount_bar : (Rd (F := F) m ρ).amount (bcell c) 0 d = 1 := by
  show (if (bcell c).2 = .reg barS then 1 else N) = 1
  exact if_pos rfl
theorem amount_dma : (Rd (F := F) m ρ).amount (dcell c j e) 0 d = N := by
  show (if (dcell c j e).2 = .reg barS then 1 else N) = N
  exact if_neg fun h => by cases h
theorem expect_bar : (Rd (F := F) m ρ).expect (bcell c) 0 = 15 := by
  unfold Schedule.expect Schedule.amountOf
  rw [duties_bar, Finset.sum_congr rfl fun d _ => amount_bar m ρ c d, Finset.sum_const, Finset.card_univ, Fintype.card_fin, smul_eq_mul]
theorem expect_dma : (Rd (F := F) m ρ).expect (dcell c j e) 0 = N := by
  unfold Schedule.expect Schedule.amountOf; rw [duties_dma, Finset.sum_singleton, amount_dma]
theorem payload_bar : (Rd (F := F) m ρ).payload (bcell c) 0 d = barPay c d := by
  show kidPay m ρ c d (kidOf (.reg barS)) = _
  rw [kidOf_bar]; rfl
theorem payload_dma : (Rd (F := F) m ρ).payload (dcell c j e) 0 d = dmaPay m ρ c j e := by
  show kidPay m ρ c d (kidOf (.dma (dq j e))) = _
  rw [kidOf_dq]; rfl
theorem rest_bar : bigSep ((Rd (F := F) m ρ).duties (bcell c) 0 \ ∅) (fun d => (Rd (F := F) m ρ).payload (bcell c) 0 d)
    = bigSep Finset.univ fun d => barPay c d := by
  rw [Finset.sdiff_empty, duties_bar]; exact bigSep_congr fun d _ => payload_bar m ρ c d
theorem rest_dma : bigSep ((Rd (F := F) m ρ).duties (dcell c j e) 0 \ ∅) (fun d => (Rd (F := F) m ρ).payload (dcell c j e) 0 d)
    = dmaPay m ρ c j e := by
  rw [Finset.sdiff_empty, duties_dma, bigSep_singleton, payload_dma]

end Sched

/-! ## What each device owes, and the levels that order the waits -/

open SparseCore.ProtocolKit (finFrom finUpTo)

/-- What `c` owes its partners from slot `n` on: a unit on each barrier, a slot's credit on each receive cell. -/
def Obar (c : Dev nD) (n : ℕ) : CellTallies nD τ sig Unit := ∑ d ∈ finFrom 15 n, tallyAt (bcell (peer c d)) () 1
def Ocp (j : Fin 4) (c : Dev nD) (n : ℕ) : CellTallies nD τ sig Unit := ∑ d ∈ finFrom 15 n, tallyAt (dcell (peer c d) j d) () N
def O₀ (c : Dev nD) : CellTallies nD τ sig Unit := Ocp 3 c 0 + Ocp 1 c 0 + Obar c 0

def L (g : GSem nD τ sig) : Finset Unit := if g.1.2 = .tc then {()} else ∅
def kidLv : Option Kid → ℕ
  | some none => 1
  | some (some (1, _)) => 2
  | some (some (3, _)) => 3
  | _ => 0
/-- Barriers first, then the receipts of the first exchange, then those of the second. -/
def lv (g : GSem nD τ sig) (_ : Unit) : ℕ := kidLv (kidOf g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` lies above level `l`. -/
def Above (l : ℕ) (O : CellTallies nD τ sig Unit) : Prop := ∀ g u, 0 < O g u → g.1.2 = .tc ∧ l < lv g u

theorem above_zero (l : ℕ) : Above l 0 := fun _ _ h => absurd h (Nat.lt_irrefl 0)
theorem above_add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
theorem above_tally {l : ℕ} (g : GSem nD τ sig) (k : ℕ) (h1 : g.1.2 = .tc) (h2 : l < lv g ()) : Above l (tallyAt g () k) := fun g' u hg => by
  rw [tallyAt_apply] at hg
  by_cases h : g' = g ∧ u = ()
  · rw [h.1]; exact ⟨h1, h2⟩
  · rw [if_neg h] at hg; exact absurd hg (Nat.lt_irrefl 0)
theorem above_sum {l : ℕ} (S : Finset (Fin 15)) (f : Fin 15 → CellTallies nD τ sig Unit) (h : ∀ d, Above l (f d)) : Above l (∑ d ∈ S, f d) := by
  classical
  induction S using Finset.induction_on with
  | empty => rw [Finset.sum_empty]; exact above_zero l
  | insert a S ha ih => rw [Finset.sum_insert ha]; exact above_add (h a) ih

theorem lv_bar (c : Dev nD) : lv (bcell c) () = 1 := by show kidLv (kidOf (.reg barS)) = 1; rw [kidOf_bar]; rfl
theorem lv_dma (c : Dev nD) (j : Fin 4) (e : Fin 15) : lv (dcell c j e) () = kidLv (some (some (j, e))) := by
  show kidLv (kidOf (.dma (dq j e))) = _; rw [kidOf_dq]
theorem above_bar (c : Dev nD) (n : ℕ) : Above 0 (Obar c n) :=
  above_sum _ _ fun d => above_tally _ _ rfl (by rw [lv_bar]; decide)
theorem above_rs (l : ℕ) (hl : l < 2) (c : Dev nD) (n : ℕ) : Above l (Ocp 1 c n) :=
  above_sum _ _ fun d => above_tally _ _ rfl (by rw [lv_dma]; exact hl)
theorem above_ag (l : ℕ) (hl : l < 3) (c : Dev nD) (n : ℕ) : Above l (Ocp 3 c n) :=
  above_sum _ _ fun d => above_tally _ _ rfl (by rw [lv_dma]; exact hl)

/-- A device may wait on a semaphore of its own below everything it owes. -/
theorem mayWait_of (c : Dev nD) (sm : SemLoc sig) (l : ℕ) (hl : lv ((c : Thread nD τ), sm) () ≤ l) {O : CellTallies nD τ sig Unit} (hO : Above l O) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hl)
    (fun g u hg => (hO g u hg).2)

end Cert.KernelIdealProof

end
-- ==== Proof.Slots.lean ====
/-
Where a slot's elements lie in its buffer, and what reading and writing a slot, a chunk or a block of rows does to the contents.
-/
module

public import proofs.«01_k».proof.Proof.Cells

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open SparseCore.ProtocolKit (finFrom finUpTo)

variable {F : FTy → Type} [FloatOps F]

local notation "𝕄" => MT nD τ sig Unit (Elt F) ℕ UU ℕ

variable (m : (ℓ : Loc nD τ sig) → Buf (Elt F) ℓ) (ρ : Dev nD → PrngReg)

/-! ## One slot, as the transfers address it and as the loads address it -/

abbrev rsSl (o : Fin 3 → ℕ) (inb : ∀ a, o a + S1x32x512.size a ≤ S15x32x512.size a) : Memref sig .tc .vmem S32x512 .bf16 :=
  (rsM.slice (Rect.unit (s := S15x32x512) o S1x32x512.size inb) (fun _ => rfl)).squeeze S32x512 squeezes_S1x32x512_S32x512
abbrev agSl (o : Fin 3 → ℕ) (inb : ∀ a, o a + S1x32x512.size a ≤ S15x32x512.size a) : Memref sig .tc .vmem S32x512 .bf16 :=
  (agM.slice (Rect.unit (s := S15x32x512) o S1x32x512.size inb) (fun _ => rfl)).squeeze S32x512 squeezes_S1x32x512_S32x512
abbrev partSl (o : Fin 3 → ℕ) (inb : ∀ a, o a + S1x32x512.size a ≤ S16x32x512.size a) : Memref sig .tc .vmem S32x512 .bf16 :=
  (partM.slice (Rect.unit (s := S16x32x512) o S1x32x512.size inb) (fun _ => rfl)).squeeze S32x512 squeezes_S1x32x512_S32x512

/-- Where coordinate `a` of a block's index lies in the array. -/
theorem unit_emb_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

section Emb
variable {n : ℕ} (e : Fin n) (inb : ∀ a, (![e.val, 0, 0] : Fin 3 → ℕ) a + S1x32x512.size a ≤ (⟨3, ![n, 32, 512]⟩ : Shape).size a)

theorem unit_emb (j : S1x32x512.Idx) :
    (Rect.unit (s := ⟨3, ![n, 32, 512]⟩) ![e.val, 0, 0] S1x32x512.size inb).emb j = ix3 e (j 1) (j 2) := by
  funext a
  apply Fin.ext
  rw [unit_emb_val]
  have h0 : (j 0).val = 0 := by have : (j 0).val < 1 := (j 0).isLt; omega
  fin_cases a
  · show e.val + (j 0).val = e.val; omega
  · show 0 + (j 1).val = (j 1).val; omega
  · show 0 + (j 2).val = (j 2).val; omega

theorem unit_squeeze_emb (j : S32x512.Idx) :
    (Rect.unit (s := ⟨3, ![n, 32, 512]⟩) ![e.val, 0, 0] S1x32x512.size inb).emb
      (Shape.reshapeEquiv (squeezes_S1x32x512_S32x512 : S1x32x512.Squeezes S32x512).numel_eq j) = ix3 e (j 0) (j 1) := by
  have h : Shape.reshapeEquiv (squeezes_S1x32x512_S32x512 : S1x32x512.Squeezes S32x512).numel_eq j
      = ix3 (⟨0, Nat.one_pos⟩ : Fin 1) (j 0) (j 1) := by
    conv_lhs => rw [eq_ix2 j]
    exact ValueIdx.reshapeEquiv_ix2_1ab _ _ _
  rw [h]
  exact unit_emb e inb _

end Emb

theorem rsSl_emb (e : Fin 15) (inb) (j : S32x512.Idx) : (rsSl ![e.val, 0, 0] inb).view.emb j = ix3 e (j 0) (j 1) := unit_squeeze_emb e inb j
theorem agSl_emb (e : Fin 15) (inb) (j : S32x512.Idx) : (agSl ![e.val, 0, 0] inb).view.emb j = ix3 e (j 0) (j 1) := unit_squeeze_emb e inb j
theorem partSl_emb (d : Fin 16) (inb) (j : S32x512.Idx) : (partSl ![d.val, 0, 0] inb).view.emb j = ix3 d (j 0) (j 1) := unit_squeeze_emb d inb j

/-- The elements an index map of this form reaches are the slot's. -/
theorem mem_slotSet_iff {n : ℕ} (e : Fin n) (i : (⟨3, ![n, 32, 512]⟩ : Shape).Idx) :
    i ∈ slotSet n e ↔ ∃ j : S32x512.Idx, ix3 e (j 0) (j 1) = i := by
  constructor
  · intro h
    have h0 : i 0 = e := Fin.ext (Finset.mem_filter.mp h).2
    exact ⟨ix2 (i 1) (i 2), by rw [← h0]; exact (eq_ix3 i).symm⟩
  · rintro ⟨j, rfl⟩; exact Finset.mem_filter.mpr ⟨Finset.mem_univ _, rfl⟩

theorem rsSl_set (e : Fin 15) (inb) : (rsSl ![e.val, 0, 0] inb).view.set = slotSet 15 e := by
  ext i; rw [mem_slotSet_iff]
  exact ⟨fun h => by obtain ⟨j, -, hj⟩ := Finset.mem_map.mp h; exact ⟨j, (rsSl_emb e inb j).symm.trans hj⟩,
    fun ⟨j, hj⟩ => Finset.mem_map.mpr ⟨j, Finset.mem_univ _, (rsSl_emb e inb j).trans hj⟩⟩
theorem agSl_set (e : Fin 15) (inb) : (agSl ![e.val, 0, 0] inb).view.set = slotSet 15 e := by
  ext i; rw [mem_slotSet_iff]
  exact ⟨fun h => by obtain ⟨j, -, hj⟩ := Finset.mem_map.mp h; exact ⟨j, (agSl_emb e inb j).symm.trans hj⟩,
    fun ⟨j, hj⟩ => Finset.mem_map.mpr ⟨j, Finset.mem_univ _, (agSl_emb e inb j).trans hj⟩⟩
theorem partSl_set (d : Fin 16) (inb) : (partSl ![d.val, 0, 0] inb).view.set = slotSet 16 d := by
  ext i; rw [mem_slotSet_iff]
  exact ⟨fun h => by obtain ⟨j, -, hj⟩ := Finset.mem_map.mp h; exact ⟨j, (partSl_emb d inb j).symm.trans hj⟩,
    fun ⟨j, hj⟩ => Finset.mem_map.mpr ⟨j, Finset.mem_univ _, (partSl_emb d inb j).trans hj⟩⟩

/-- A load of one slot touches the slot's elements only. -/
theorem unit_set_sub {n : ℕ} (e : Fin n) (inb : ∀ a, (![e.val, 0, 0] : Fin 3 → ℕ) a + S1x32x512.size a ≤ (⟨3, ![n, 32, 512]⟩ : Shape).size a) :
    (Rect.unit (s := ⟨3, ![n, 32, 512]⟩) ![e.val, 0, 0] S1x32x512.size inb).set ⊆ slotSet n e := fun i h => by
  obtain ⟨h1, h2⟩ := Rect.mem_set_unit.mp h 0
  refine Finset.mem_filter.mpr ⟨Finset.mem_univ _, ?_⟩
  have h1' : e.val ≤ (i 0).val := h1
  have h2' : (i 0).val < e.val + 1 := h2
  omega

/-- What a landing leaves in slot `e` of the first buffer of `peer c e`: device `c`'s partial products for that device. -/
theorem rs_landed (c : Dev nD) (e : Fin 15) (inb inb') (fd : Buf (Elt F) (rsL (peer c e))) :
    ((rsSl ![e.val, 0, 0] inb).view.loc ((peer c e : Dev nD) : Thread nD τ) ↦[(rsSl ![e.val, 0, 0] inb).view.set]{fullShare}
        ((rsSl ![e.val, 0, 0] inb).view.write (Elt F) fd ((partSl ![(peer c e).val, 0, 0] inb').view.read (Elt F) (partialV m ρ c)) Finset.univ) : sProp 𝕄)
      ⊢ rsPts (peer c e) e (rsFinal m ρ (peer c e)) := by
  unfold rsPts
  rw [rsSl_set]
  refine Entails.of_eq (pointsTo_congr fun i hi => ?_)
  obtain ⟨j, rfl⟩ := (mem_slotSet_iff e i).mp hi
  conv_lhs => rw [← rsSl_emb e inb j]
  rw [View.write_emb_of_mem _ _ (Finset.mem_univ j), View.read_apply]
  show partialV m ρ c ((partSl ![(peer c e).val, 0, 0] inb').view.emb j) = partialV m ρ (src (peer c e) e) (ix3 (peer c e) (j 0) (j 1))
  rw [src_peer, partSl_emb]; rfl

/-- What a landing leaves in slot `e` of the second buffer of `peer c e`: device `c`'s summed rows. -/
theorem ag_landed (c : Dev nD) (e : Fin 15) (inb) (fd : Buf (Elt F) (agL (peer c e))) :
    ((agSl ![e.val, 0, 0] inb).view.loc ((peer c e : Dev nD) : Thread nD τ) ↦[(agSl ![e.val, 0, 0] inb).view.set]{fullShare}
        ((agSl ![e.val, 0, 0] inb).view.write (Elt F) fd ((srcM : Memref sig .tc .vmem S32x512 .bf16).view.read (Elt F) (agV m ρ c)) Finset.univ) : sProp 𝕄)
      ⊢ agPts (peer c e) e (agFinal m ρ (peer c e)) := by
  unfold agPts
  rw [agSl_set]
  refine Entails.of_eq (pointsTo_congr fun i hi => ?_)
  obtain ⟨j, rfl⟩ := (mem_slotSet_iff e i).mp hi
  conv_lhs => rw [← agSl_emb e inb j]
  rw [View.write_emb_of_mem _ _ (Finset.mem_univ j), View.read_apply]
  show agV m ρ c j = agV m ρ (src (peer c e) e) (ix2 (j 0) (j 1))
  rw [src_peer]; exact congrArg (agV m ρ c) (eq_ix2 j)

/-- What the loads read. -/
theorem rs_read (c : Dev nD) (e : Fin 15) (inb) :
    (rsM.access (Rect.unit (s := S15x32x512) ![e.val, 0, 0] S1x32x512.size inb)).read (Elt F) (rsFinal m ρ c) = chunkOf m ρ (src c e) c := by
  funext j
  exact congrArg (rsFinal m ρ c) (unit_emb e inb j)
theorem ag_read (c : Dev nD) (e : Fin 15) (inb) :
    (agM.access (Rect.unit (s := S15x32x512) ![e.val, 0, 0] S1x32x512.size inb)).read (Elt F) (agFinal m ρ c) = agSlotOf m ρ (src c e) := by
  funext j
  exact congrArg (agFinal m ρ c) (unit_emb e inb j)
theorem part_read (c d : Dev nD) (inb) :
    (partM.access (Rect.unit (s := S16x32x512) ![d.val, 0, 0] S1x32x512.size inb)).read (Elt F) (partialV m ρ c) = chunkOf m ρ c d := by
  funext j
  exact congrArg (partialV m ρ c) (unit_emb (n := 16) d inb j)
theorem expert_read (c : Dev nD) (k : Fin 2) (inb) :
    (ewM.access (Rect.unit (s := S2x256x512) ![k.val, 0, 0] S1x256x512.size inb)).read (Elt F) (ewstg m ρ c) = expertV m ρ c k := by
  funext j
  show ewstg m ρ c ((Rect.unit (s := S2x256x512) ![k.val, 0, 0] S1x256x512.size inb).emb j) = ewstg m ρ c (ix3 k (j 1) (j 2))
  congr 1
  funext a
  apply Fin.ext
  rw [unit_emb_val]
  have h0 : (j 0).val = 0 := by have : (j 0).val < 1 := (j 0).isLt; omega
  fin_cases a
  · show k.val + (j 0).val = k.val; omega
  · show 0 + (j 1).val = (j 1).val; omega
  · show 0 + (j 2).val = (j 2).val; omega

/-! ## The result buffer, block of rows by block of rows -/

/-- The result buffer of `c`, its rows of the devices in `S` final. -/
def outPts (c : Dev nD) (S : Finset (Dev nD)) : sProp 𝕄 :=
  iprop(∃ f : Buf (Elt F) (outL c), ⌜∀ i : S512x512.Idx, rowDev (i 0) ∈ S → f i = outFinal m ρ c i⌝ ∗ (outL c ↦{fullShare} f))

abbrev rowsR (o : Fin 2 → ℕ) (inb : ∀ a, o a + S32x512.size a ≤ S512x512.size a) : Rect S512x512 := Rect.unit (s := S512x512) o S32x512.size inb

theorem rows_emb (d : Dev nD) (inb) (j : S32x512.Idx) (r : Fin 512) (hr : r.val = 32 * d.val + (j 0).val) :
    (rowsR ![32 * d.val, 0] inb).emb j = ix2 r (j 1) := by
  funext a
  apply Fin.ext
  rw [unit_emb_val]
  fin_cases a
  · exact hr.symm
  · show 0 + (j 1).val = (j 1).val; omega

theorem out_write (c d : Dev nD) (S : Finset (Dev nD)) (inb : ∀ a, (![32 * d.val, 0] : Fin 2 → ℕ) a + S32x512.size a ≤ S512x512.size a) (f : (cc0_stg4_0 : Ref sig .tc).ty.Contents (Elt F))
    (hf : ∀ i : S512x512.Idx, rowDev (i 0) ∈ S → f i = outFinal m ρ c i) (i : S512x512.Idx) (hi : rowDev (i 0) ∈ insert d S) :
    (((outM : Memref sig .tc .vmem S512x512 .f32).access (rowsR ![32 * d.val, 0] inb) : View sig .tc .vmem S32x512 .f32).write (Elt F) f (rowsV m ρ c d) Finset.univ : (cc0_stg4_0 : Ref sig .tc).ty.Contents (Elt F)) i = outFinal m ρ c i := by
  by_cases h : rowDev (i 0) = d
  · have hd : d.val = (i 0).val / 32 := (congrArg Fin.val h).symm
    have he : (rowsR ![32 * d.val, 0] inb).emb (ix2 (rowIn (i 0)) (i 1)) = i := by
      rw [rows_emb d inb _ (i 0) (by show (i 0).val = 32 * d.val + (i 0).val % 32; omega)]
      exact (eq_ix2 i).symm
    have hw := View.write_emb_of_mem (v := (outM.access (rowsR ![32 * d.val, 0] inb))) (Val := Elt F) f (rowsV m ρ c d)
      (M := Finset.univ) (x := ix2 (rowIn (i 0)) (i 1)) (Finset.mem_univ _)
    have he' : (outM.access (rowsR ![32 * d.val, 0] inb)).emb (ix2 (rowIn (i 0)) (i 1)) = i := he
    rw [he'] at hw
    rw [hw]
    show rowsV m ρ c d (ix2 (rowIn (i 0)) (i 1)) = rowsV m ρ c (rowDev (i 0)) (ix2 (rowIn (i 0)) (i 1))
    rw [h]
  · rw [View.write_of_not_mem]
    · exact hf i ((Finset.mem_insert.mp hi).resolve_left h)
    · intro hm
      obtain ⟨j, -, hj⟩ := Finset.mem_map.mp hm
      have h0 : ((rowsR ![32 * d.val, 0] inb).emb j 0).val = (i 0).val := congrArg (fun i : S512x512.Idx => (i 0).val) hj
      rw [unit_emb_val] at h0
      have h1 : 32 * d.val + (j 0).val = (i 0).val := h0
      have h2 : (j 0).val < 32 := (j 0).isLt
      exact h (Fin.ext (by show (i 0).val / 32 = d.val; omega))

end Cert.KernelIdealProof

end
-- ==== Proof.Steps.lean ====
/-
One lemma for each kind of step the body takes, at a symbolic slot number: what is held before it, and what is held after it.
The state of a phase counts how many of its fifteen steps are done.
-/
module

public import proofs.«01_k».proof.Proof.Slots

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open SparseCore.ProtocolKit (finFrom finUpTo bigSep_finFrom_succ bigSep_finUpTo_succ sum_finFrom_succ)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

variable (K : Dev nD × Kid → ℕ)

/-! ## What every device knows throughout -/

/-- Every cell's invariant, that every cell's round is open, and the levels. -/
def env : sProp 𝕄 :=
  iprop((bigSep Finset.univ fun ck : Dev nD × Kid => cellInv ER (Rd m ρ) (K ck) (kcell ck))
    ∗ (bigSep Finset.univ fun ck : Dev nD × Kid => reached ER (kcell ck) 0) ∗ (levAts L lv : sProp 𝕄))

instance env_persistent : BI.Persistent (env m ρ K) := by unfold env; infer_instance

theorem inv_of (ck : Dev nD × Kid) : env m ρ K ⊢ cellInv ER (Rd m ρ) (K ck) (kcell ck) := by
  unfold env
  exact sep_elim_left.trans (bigSep_elim (Finset.mem_univ ck))
theorem reached_of (ck : Dev nD × Kid) : env m ρ K ⊢ reached ER (kcell ck) 0 := by
  unfold env
  exact sep_elim_right.trans (sep_elim_left.trans (bigSep_elim (Finset.mem_univ ck)))
theorem levs_of : env m ρ K ⊢ (levAts L lv : sProp 𝕄) := by
  unfold env
  iintro ⟨-, -, #H⟩
  iexact H

/-- What `c` owes, whatever it has waited for. -/
def owing (c : Dev nD) (O : CellTallies nD τ sig Unit) : sProp 𝕄 := iprop(∃ W, owes (c : Thread nD τ) O W)

abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- `n` partners signalled. -/
def sigSt (c : Dev nD) (n : ℕ) : sProp 𝕄 :=
  iprop(owing c (Ocp 3 c 0 + Ocp 1 c 0 + Obar c n)
    ∗ bigSep (finFrom 15 n) fun d => iprop(dutyTok ER (bcell (peer c d)) 0 (rev d) ∗ (∃ f, rsPts c (rev d) f) ∗ ∃ f, agPts c (rev d) f))

theorem Obar_succ (c : Dev nD) {n : ℕ} (hn : n < 15) : Obar c n = Obar c (n + 1) + tallyAt (bcell (peer c ⟨n, hn⟩)) () 1 :=
  sum_finFrom_succ hn _
theorem Ocp_succ (j : Fin 4) (c : Dev nD) {n : ℕ} (hn : n < 15) : Ocp j c n = Ocp j c (n + 1) + tallyAt (dcell (peer c ⟨n, hn⟩) j ⟨n, hn⟩) () N :=
  sum_finFrom_succ hn _

theorem step_signal (c : Dev nD) {n : ℕ} (hn : n < 15) {dv : Dev nD} (hdv : dv = peer c ⟨n, hn⟩) {k' : ℕ} (hk' : k' = 1)
    {α : Type} {k : PUnit → Prog (TpuEff nD τ sig (Elt F) Λ₀ .tc) α} {Q : α → sProp 𝕄} {R : sProp 𝕄}
    (h : iprop(env m ρ K ∗ sigSt c (n + 1) ∗ R) ⊢ wpB c (k ⟨⟩) Q) :
    iprop(env m ρ K ∗ sigSt c n ∗ R) ⊢ wpB c (.op (.semSignal ((dv : Dev nD) : Thread nD τ) barS k') k) Q := by
  subst hdv; subst hk'
  iintro ⟨#He, Hs, HR⟩
  unfold sigSt owing
  icases Hs with ⟨⟨%W, HO⟩, Hf⟩
  ihave Hf := (Entails.of_eq (bigSep_finFrom_succ hn _)) $$ Hf
  icases Hf with ⟨⟨Ht, Hrs, Hag⟩, Hf⟩
  iapply (Rounds.wp_signal 𝒱₀ ER (Rd m ρ) (c : Thread nD τ) none (dst := ((peer c ⟨n, hn⟩ : Dev nD) : Thread nD τ)) (κ := K (peer c ⟨n, hn⟩, none))
      (O₀ := Ocp 3 c 0 + Ocp 1 c 0 + Obar c n) (d := rev ⟨n, hn⟩) (by rw [duties_bar]; exact Finset.mem_univ _) (amount_bar m ρ _ _) ()
      (Ocp 3 c 0 + Ocp 1 c 0 + Obar c (n + 1)) (by rw [Obar_succ c hn]; exact (add_assoc _ _ _).symm)) $$ [HO Ht Hrs Hag]
  · isplitr; · iapply (inv_of m ρ K (peer c ⟨n, hn⟩, none)); iexact He
    isplitl [HO]; · iexact HO
    isplitl [Ht]; · iexact Ht
    isplitl [Hrs Hag]
    · rw [payload_bar]; unfold barPay; rw [peer_peer]
      isplitl [Hrs] <;> iassumption
    · iapply (reached_of m ρ K (peer c ⟨n, hn⟩, none)); iexact He
  iintro HO
  iapply h
  isplitr; · iexact He
  isplitr [HR]
  · unfold sigSt owing
    isplitl [HO]; · iexists W; iexact HO
    iexact Hf
  iexact HR

/-! ## The sends -/

theorem part_form (c d : Dev nD) (inb) :
    ((partSl ![d.val, 0, 0] inb).view.loc (c : Thread nD τ) ↦[(partSl ![d.val, 0, 0] inb).view.set]{fullShare} (partialV m ρ c) : sProp 𝕄) = partPts m ρ c d := by
  unfold partPts; rw [partSl_set d inb]
omit [FloatOps F] in
theorem rs_form (c : Dev nD) (e : Fin 15) (inb) (f : Buf (Elt F) (rsL c)) :
    ((rsSl ![e.val, 0, 0] inb).view.loc (c : Thread nD τ) ↦[(rsSl ![e.val, 0, 0] inb).view.set]{fullShare} f : sProp 𝕄) = rsPts c e f := by
  unfold rsPts; rw [rsSl_set e inb]
omit [FloatOps F] in
theorem ag_form (c : Dev nD) (e : Fin 15) (inb) (f : Buf (Elt F) (agL c)) :
    ((agSl ![e.val, 0, 0] inb).view.loc (c : Thread nD τ) ↦[(agSl ![e.val, 0, 0] inb).view.set]{fullShare} f : sProp 𝕄) = agPts c e f := by
  unfold agPts; rw [agSl_set e inb]
theorem src_form (c : Dev nD) (e : Fin 15) :
    ((srcM : Memref sig .tc .vmem S32x512 .bf16).view.loc (c : Thread nD τ) ↦[(srcM : Memref sig .tc .vmem S32x512 .bf16).view.set]{Transfers.shareTok fullShare 15 e} (agV m ρ c) : sProp 𝕄)
      = srcPts m ρ c e := by
  unfold srcPts; rw [show (srcM : Memref sig .tc .vmem S32x512 .bf16).view.set = Finset.univ from View.set_whole _]
theorem rs_credit (o inb) (s : DmaSem sig) : (rsSl o inb).view.amount (.dma s) = N := rfl
theorem ag_credit (o inb) (s : DmaSem sig) : (agSl o inb).view.amount (.dma s) = N := rfl

attribute [local irreducible] N

/-- `n` chunks of the partial products sent. -/
def rsSt (c : Dev nD) (n : ℕ) : sProp 𝕄 :=
  iprop(owing c (Ocp 3 c 0 + Ocp 1 c n)
    ∗ (bigSep (finFrom 15 n) fun e => iprop(partPts m ρ c (peer c e) ∗ (∃ f, rsPts (peer c e) e f)
        ∗ dutyTok ER (dcell c 0 e) 0 (0 : Fin 15) ∗ dutyTok ER (dcell (peer c e) 1 e) 0 (0 : Fin 15)))
    ∗ bigSep (finUpTo 15 n) fun e => cred (tallyAt (dcell c 0 e) () N))

theorem off1_peer (c : Dev nD) (e : Fin 15) : k0_off1 c (BitVec.ofNat 32 (1 + e.val)) = ![(peer c e).val, 0, 0] := k0_off1_eq c e

theorem step_rs (c : Dev nD) {n : ℕ} (hn : n < 15) {dv : Dev nD} (hdv : dv = peer c ⟨n, hn⟩)
    {o o' : Fin 3 → ℕ} (ho : o = ![(peer c ⟨n, hn⟩).val, 0, 0]) (ho' : o' = ![n, 0, 0]) {inb inb'}
    {s₁ s₂ : DmaSem sig} (hs₁ : s₁ = dq 0 ⟨n, hn⟩) (hs₂ : s₂ = dq 1 ⟨n, hn⟩)
    {hsc : (rsSl o' inb' : Memref sig (Dev.tc dv : Thread nD τ).2.kind .vmem S32x512 .bf16).view.ref.isScScratch = false}
    {hsrc : (partSl o inb).view.WordExact} {hdst : (rsSl o' inb').view.WordExact}
    {hsem : DmaTarget.Typed .vmem (.dma s₂) (.remote (Dev.tc dv : Thread nD τ) (rsSl o' inb') (.dma s₁) hsc)}
    {α : Type} {k : PUnit → Prog (TpuEff nD τ sig (Elt F) Λ₀ .tc) α} {Q : α → sProp 𝕄} {R : sProp 𝕄}
    (h : iprop(env m ρ K ∗ rsSt m ρ c (n + 1) ∗ R) ⊢ wpB c (k ⟨⟩) Q) :
    iprop(env m ρ K ∗ rsSt m ρ c n ∗ R)
      ⊢ wpB c (.op (.enqueueDma (partSl o inb) (.remote (Dev.tc dv : Thread nD τ) (rsSl o' inb') (.dma s₁) hsc) (.dma s₂) hsrc hdst hsem) k) Q := by
  subst hdv; subst ho; subst ho'; subst hs₁; subst hs₂
  iintro ⟨#He, Hs, HR⟩
  unfold rsSt owing
  icases Hs with ⟨⟨%W, HO⟩, Hf, Hc⟩
  ihave Hf := (Entails.of_eq (bigSep_finFrom_succ hn _)) $$ Hf
  icases Hf with ⟨⟨Hp, ⟨%fd, Hd⟩, Ht₁, Ht₂⟩, Hf⟩
  iapply (Rounds.wp_send_pointsTo 𝒱₀ ER (Rd m ρ) (c : Thread nD τ) none (κ₁ := K (c, some (0, ⟨n, hn⟩))) (κ₂ := K (peer c ⟨n, hn⟩, some (1, ⟨n, hn⟩)))
      (r₁ := 0) (r₂ := 0) (d₁ := 0) (d₂ := 0) (O₀ := Ocp 3 c 0 + Ocp 1 c n) (q := fullShare) (fs := partialV m ρ c) (fd := fd)
      (by rw [duties_dma]; exact Finset.mem_singleton_self _) (by rw [duties_dma]; exact Finset.mem_singleton_self _)
      () () N (rs_credit _ _ _) (amount_dma m ρ c 0 ⟨n, hn⟩ 0) (amount_dma m ρ (peer c ⟨n, hn⟩) 1 ⟨n, hn⟩ 0) (Ocp 3 c 0 + Ocp 1 c (n + 1))
      (by rw [Ocp_succ 1 c hn, add_assoc]) (W := W)
      (by rw [payload_dma]; exact Entails.of_eq (part_form m ρ c (peer c ⟨n, hn⟩) inb))
      (by rw [payload_dma]; exact rs_landed m ρ c ⟨n, hn⟩ _ _ fd)) $$ [HO Hp Hd Ht₁ Ht₂]
  · isplitr; · iapply (inv_of m ρ K (c, some (0, ⟨n, hn⟩))); iexact He
    isplitr; · iapply (inv_of m ρ K (peer c ⟨n, hn⟩, some (1, ⟨n, hn⟩))); iexact He
    isplitl [Hp]; · iapply (Entails.of_eq (part_form m ρ c (peer c ⟨n, hn⟩) inb).symm); iexact Hp
    isplitl [Hd]; · iapply (Entails.of_eq (rs_form (peer c ⟨n, hn⟩) ⟨n, hn⟩ inb' fd).symm); iexact Hd
    isplitl [HO]; · iexact HO
    isplitl [Ht₁]; · iexact Ht₁
    isplitr; · iapply (reached_of m ρ K (c, some (0, ⟨n, hn⟩))); iexact He
    isplitl [Ht₂]; · iexact Ht₂
    iapply (reached_of m ρ K (peer c ⟨n, hn⟩, some (1, ⟨n, hn⟩))); iexact He
  iintro ⟨Hcr, HO⟩
  iapply h
  isplitr; · iexact He
  isplitr [HR]
  · unfold rsSt owing
    isplitl [HO]; · iexists W; iexact HO
    isplitl [Hf]; · iexact Hf
    iapply (Entails.of_eq (bigSep_finUpTo_succ hn _).symm)
    isplitl [Hcr] <;> iassumption
  iexact HR

/-- The summed rows sent to `n` partners. -/
def agSt (c : Dev nD) (n : ℕ) : sProp 𝕄 :=
  iprop(owing c (Ocp 3 c n)
    ∗ (bigSep (finFrom 15 n) fun e => iprop(srcPts m ρ c e ∗ (∃ f, agPts (peer c e) e f)
        ∗ dutyTok ER (dcell c 2 e) 0 (0 : Fin 15) ∗ dutyTok ER (dcell (peer c e) 3 e) 0 (0 : Fin 15)))
    ∗ bigSep (finUpTo 15 n) fun e => cred (tallyAt (dcell c 2 e) () N))

theorem step_ag (c : Dev nD) {n : ℕ} (hn : n < 15) {dv : Dev nD} (hdv : dv = peer c ⟨n, hn⟩)
    {o' : Fin 3 → ℕ} (ho' : o' = ![n, 0, 0]) {inb'}
    {s₁ s₂ : DmaSem sig} (hs₁ : s₁ = dq 2 ⟨n, hn⟩) (hs₂ : s₂ = dq 3 ⟨n, hn⟩)
    {hsc : (agSl o' inb' : Memref sig (Dev.tc dv : Thread nD τ).2.kind .vmem S32x512 .bf16).view.ref.isScScratch = false}
    {hsrc : (srcM : Memref sig .tc .vmem S32x512 .bf16).view.WordExact} {hdst : (agSl o' inb').view.WordExact}
    {hsem : DmaTarget.Typed .vmem (.dma s₂) (.remote (Dev.tc dv : Thread nD τ) (agSl o' inb') (.dma s₁) hsc)}
    {α : Type} {k : PUnit → Prog (TpuEff nD τ sig (Elt F) Λ₀ .tc) α} {Q : α → sProp 𝕄} {R : sProp 𝕄}
    (h : iprop(env m ρ K ∗ agSt m ρ c (n + 1) ∗ R) ⊢ wpB c (k ⟨⟩) Q) :
    iprop(env m ρ K ∗ agSt m ρ c n ∗ R)
      ⊢ wpB c (.op (.enqueueDma srcM (.remote (Dev.tc dv : Thread nD τ) (agSl o' inb') (.dma s₁) hsc) (.dma s₂) hsrc hdst hsem) k) Q := by
  subst hdv; subst ho'; subst hs₁; subst hs₂
  iintro ⟨#He, Hs, HR⟩
  unfold agSt owing
  icases Hs with ⟨⟨%W, HO⟩, Hf, Hc⟩
  ihave Hf := (Entails.of_eq (bigSep_finFrom_succ hn _)) $$ Hf
  icases Hf with ⟨⟨Hp, ⟨%fd, Hd⟩, Ht₁, Ht₂⟩, Hf⟩
  iapply (Rounds.wp_send_pointsTo 𝒱₀ ER (Rd m ρ) (c : Thread nD τ) none (κ₁ := K (c, some (2, ⟨n, hn⟩))) (κ₂ := K (peer c ⟨n, hn⟩, some (3, ⟨n, hn⟩)))
      (r₁ := 0) (r₂ := 0) (d₁ := 0) (d₂ := 0) (O₀ := Ocp 3 c n) (q := Transfers.shareTok fullShare 15 ⟨n, hn⟩) (fs := agV m ρ c) (fd := fd)
      (by rw [duties_dma]; exact Finset.mem_singleton_self _) (by rw [duties_dma]; exact Finset.mem_singleton_self _)
      () () N (ag_credit _ _ _) (amount_dma m ρ c 2 ⟨n, hn⟩ 0) (amount_dma m ρ (peer c ⟨n, hn⟩) 3 ⟨n, hn⟩ 0) (Ocp 3 c (n + 1))
      (by rw [Ocp_succ 3 c hn]) (W := W)
      (by rw [payload_dma]; exact Entails.of_eq (src_form m ρ c ⟨n, hn⟩))
      (by rw [payload_dma]; exact ag_landed m ρ c ⟨n, hn⟩ _ fd)) $$ [HO Hp Hd Ht₁ Ht₂]
  · isplitr; · iapply (inv_of m ρ K (c, some (2, ⟨n, hn⟩))); iexact He
    isplitr; · iapply (inv_of m ρ K (peer c ⟨n, hn⟩, some (3, ⟨n, hn⟩))); iexact He
    isplitl [Hp]; · iapply (Entails.of_eq (src_form m ρ c ⟨n, hn⟩).symm); iexact Hp
    isplitl [Hd]; · iapply (Entails.of_eq (ag_form (peer c ⟨n, hn⟩) ⟨n, hn⟩ inb' fd).symm); iexact Hd
    isplitl [HO]; · iexact HO
    isplitl [Ht₁]; · iexact Ht₁
    isplitr; · iapply (reached_of m ρ K (c, some (2, ⟨n, hn⟩))); iexact He
    isplitl [Ht₂]; · iexact Ht₂
    iapply (reached_of m ρ K (peer c ⟨n, hn⟩, some (3, ⟨n, hn⟩))); iexact He
  iintro ⟨Hcr, HO⟩
  iapply h
  isplitr; · iexact He
  isplitr [HR]
  · unfold agSt owing
    isplitl [HO]; · iexists W; iexact HO
    isplitl [Hf]; · iexact Hf
    iapply (Entails.of_eq (bigSep_finUpTo_succ hn _).symm)
    isplitl [Hcr] <;> iassumption
  iexact HR

/-! ## The waits -/

/-- The first `n` cells of array `j` waited for, owing `O`. -/
def waitSt (c : Dev nD) (j : Fin 4) (O : CellTallies nD τ sig Unit) (n : ℕ) : sProp 𝕄 :=
  iprop(owing c O
    ∗ (bigSep (finFrom 15 n) fun e => iprop(cred (tallyAt (dcell c j e) () N) ∗ atPos ER (dcell c j e) 0 ∅ 0))
    ∗ bigSep (finUpTo 15 n) fun e => iprop(dmaPay m ρ c j e ∗ atPos ER (dcell c j e) 1 ∅ 0))

theorem step_wait (c : Dev nD) (j : Fin 4) {O : CellTallies nD τ sig Unit} {n : ℕ} (hn : n < 15) (l : ℕ)
    (hl : kidLv (some (some (j, ⟨n, hn⟩))) ≤ l) (hO : Above l O) {s : DmaSem sig} (hs : s = dq j ⟨n, hn⟩)
    {sp sp' : Space} {sh sh' : Shape} {el el' : EltTy} {src : Memref sig .tc sp' sh' el'} {dst : Memref sig .tc sp sh el}
    {hsrc : src.view.WordExact} {hdst : dst.view.WordExact} (hN : dst.view.dmaCredit = N)
    {α : Type} {k : PUnit → Prog (TpuEff nD τ sig (Elt F) Λ₀ .tc) α} {Q : α → sProp 𝕄} {R : sProp 𝕄}
    (h : iprop(env m ρ K ∗ waitSt m ρ c j O (n + 1) ∗ R) ⊢ wpB c (k ⟨⟩) Q) :
    iprop(env m ρ K ∗ waitSt m ρ c j O n ∗ R) ⊢ wpB c (.op (.waitDma2 s src dst hsrc hdst) k) Q := by
  subst hs
  have hMay : env m ρ K ⊢ MayWait (c : Thread nD τ) (.dma (dq j ⟨n, hn⟩)) () O :=
    (levs_of m ρ K).trans (mayWait_of c (.dma (dq j ⟨n, hn⟩)) l ((le_of_eq (lv_dma c j ⟨n, hn⟩)).trans hl) hO)
  iintro ⟨#He, Hs, HR⟩
  unfold waitSt owing
  icases Hs with ⟨⟨%W, HO⟩, Hf, Hd⟩
  ihave Hf := (Entails.of_eq (bigSep_finFrom_succ hn _)) $$ Hf
  icases Hf with ⟨⟨Hc, Hat⟩, Hf⟩
  iapply (Rounds.wp_wait_rest_token 𝒱₀ ER (Rd m ρ) (c : Thread nD τ) none (κ := K (c, some (j, ⟨n, hn⟩)))
      (wpE_waitDma2_eq 𝒱₀ (c : Thread nD τ) none Set.univ) (Set.mem_univ _) () (O := O) (W := W) (R := 0) (m := 0) (T := ∅)
      ((congrArg (0 + ·) hN).trans ((Nat.zero_add N).trans (expect_dma m ρ c j ⟨n, hn⟩).symm))) $$ [Hc HO Hat]
  · isplitr; · iapply (inv_of m ρ K (c, some (j, ⟨n, hn⟩))); iexact He
    isplitl [Hc]; · rw [hN]; iexact Hc
    isplitl [HO]; · iexact HO
    isplitr
    · iapply hMay; iexact He
    iexact Hat
  iintro ⟨HO, Hat, -, Hpay⟩
  ihave Hpay := (Entails.of_eq (rest_dma m ρ c j ⟨n, hn⟩)) $$ Hpay
  iapply h
  isplitr; · iexact He
  isplitr [HR]
  · unfold waitSt owing
    isplitl [HO]; · iexists _; iexact HO
    isplitl [Hf]; · iexact Hf
    iapply (Entails.of_eq (bigSep_finUpTo_succ hn _).symm)
    isplitl [Hpay Hat]
    · isplitl [Hpay] <;> iassumption
    iexact Hd
  iexact HR

/-! ## The loads of a slot that has arrived -/

theorem step_rsload (c : Dev nD) {O : CellTallies nD τ sig Unit} {n : ℕ} (hn : n < 15) {o : Fin 3 → ℕ} (ho : o = ![n, 0, 0]) {inb}
    {hl : (rsM : Memref sig .tc .vmem S15x32x512 .bf16).view.LoadsAt (Rect.unit (s := S15x32x512) o S1x32x512.size inb).toLoadRect}
    {α : Type} {k : Vec F S1x32x512 .bf16 → Prog (TpuEff nD τ sig (Elt F) Λ₀ .tc) α} {Q : α → sProp 𝕄} {R : sProp 𝕄}
    (h : iprop(env m ρ K ∗ waitSt m ρ c 1 O (n + 1) ∗ R) ⊢ wpB c (k (chunkOf m ρ (src c ⟨n, hn⟩) c)) Q) :
    iprop(env m ρ K ∗ waitSt m ρ c 1 O (n + 1) ∗ R) ⊢ wpB c (.op (.load rsM (Rect.unit (s := S15x32x512) o S1x32x512.size inb).toLoadRect hl) k) Q := by
  subst ho
  iintro ⟨#He, Hs, HR⟩
  unfold waitSt
  icases Hs with ⟨HO, Hf, Hd⟩
  ihave Hd := (Entails.of_eq (bigSep_finUpTo_succ hn _)) $$ Hd
  icases Hd with ⟨⟨Hp, Hat⟩, Hd⟩
  ihave Hp := (show dmaPay m ρ c 1 ⟨n, hn⟩ ⊢ (((rsM : Memref sig .tc .vmem S15x32x512 .bf16).access (Rect.unit (s := S15x32x512) ![n, 0, 0] S1x32x512.size inb)).loc (c : Thread nD τ) ↦[slotSet 15 ⟨n, hn⟩]{fullShare} (rsFinal m ρ c)) from Entails.refl _) $$ Hp
  iapply (wp_load_rect 𝒱₀ (c : Thread nD τ) none Set.univ (m := rsM) (by rw [View.set_slice_whole]; exact unit_set_sub (n := 15) ⟨n, hn⟩ inb)) $$ Hp
  iintro Hp
  rw [rs_read m ρ c ⟨n, hn⟩ inb]
  iapply h
  isplitr; · iexact He
  isplitr [HR]
  · unfold waitSt
    isplitl [HO]; · iexact HO
    isplitl [Hf]; · iexact Hf
    iapply (Entails.of_eq (bigSep_finUpTo_succ hn _).symm)
    isplitl [Hp Hat]
    · isplitl [Hp]; · iapply (show _ ⊢ dmaPay m ρ c 1 ⟨n, hn⟩ from Entails.refl (rsPts c ⟨n, hn⟩ (rsFinal m ρ c))); unfold rsPts; iexact Hp
      iexact Hat
    iexact Hd
  iexact HR

theorem step_agload (c : Dev nD) {O : CellTallies nD τ sig Unit} {n : ℕ} (hn : n < 15) {o : Fin 3 → ℕ} (ho : o = ![n, 0, 0]) {inb}
    {hl : (agM : Memref sig .tc .vmem S15x32x512 .bf16).view.LoadsAt (Rect.unit (s := S15x32x512) o S1x32x512.size inb).toLoadRect}
    {α : Type} {k : Vec F S1x32x512 .bf16 → Prog (TpuEff nD τ sig (Elt F) Λ₀ .tc) α} {Q : α → sProp 𝕄} {R : sProp 𝕄}
    (h : iprop(env m ρ K ∗ waitSt m ρ c 3 O (n + 1) ∗ R) ⊢ wpB c (k (agSlotOf m ρ (src c ⟨n, hn⟩))) Q) :
    iprop(env m ρ K ∗ waitSt m ρ c 3 O (n + 1) ∗ R) ⊢ wpB c (.op (.load agM (Rect.unit (s := S15x32x512) o S1x32x512.size inb).toLoadRect hl) k) Q := by
  subst ho
  iintro ⟨#He, Hs, HR⟩
  unfold waitSt
  icases Hs with ⟨HO, Hf, Hd⟩
  ihave Hd := (Entails.of_eq (bigSep_finUpTo_succ hn _)) $$ Hd
  icases Hd with ⟨⟨Hp, Hat⟩, Hd⟩
  ihave Hp := (show dmaPay m ρ c 3 ⟨n, hn⟩ ⊢ (((agM : Memref sig .tc .vmem S15x32x512 .bf16).access (Rect.unit (s := S15x32x512) ![n, 0, 0] S1x32x512.size inb)).loc (c : Thread nD τ) ↦[slotSet 15 ⟨n, hn⟩]{fullShare} (agFinal m ρ c)) from Entails.refl _) $$ Hp
  iapply (wp_load_rect 𝒱₀ (c : Thread nD τ) none Set.univ (m := agM) (by rw [View.set_slice_whole]; exact unit_set_sub (n := 15) ⟨n, hn⟩ inb)) $$ Hp
  iintro Hp
  rw [ag_read m ρ c ⟨n, hn⟩ inb]
  iapply h
  isplitr; · iexact He
  isplitr [HR]
  · unfold waitSt
    isplitl [HO]; · iexact HO
    isplitl [Hf]; · iexact Hf
    iapply (Entails.of_eq (bigSep_finUpTo_succ hn _).symm)
    isplitl [Hp Hat]
    · isplitl [Hp]; · iapply (show _ ⊢ dmaPay m ρ c 3 ⟨n, hn⟩ from Entails.refl (agPts c ⟨n, hn⟩ (agFinal m ρ c))); unfold agPts; iexact Hp
      iexact Hat
    iexact Hd
  iexact HR

/-! ## The rows of one device into the result -/

theorem rowsV_self (c : Dev nD) : rowsV m ρ c c = accV m ρ c 15 := if_pos rfl
theorem rowsV_other (c : Dev nD) (e : Fin 15) : rowsV m ρ c (src c e) = k0_pay5 (agSlotOf m ρ (src c e)) :=
  if_neg (by rw [← peer_rev]; exact peer_ne c _)

theorem off4_src (c : Dev nD) (e : Fin 15) : k0_off4 c (BitVec.ofNat 32 (15 - e.val)) = ![32 * (src c e).val, 0] := by
  have he : 15 - e.val = 1 + (rev e).val := by unfold rev; simp only []; omega
  rw [he, k0_off4_eq c (rev e), ← peer_rev]; rfl

/-- The body reads the rows it is about to write; what it reads is not used. -/
theorem step_outload (c : Dev nD) {S : Finset (Dev nD)} {r : LoadRect S512x512}
    {hl : (outM : Memref sig .tc .vmem S512x512 .f32).view.LoadsAt r}
    {α : Type} {k : (r.shape.Idx → Elt F .f32) → Prog (TpuEff nD τ sig (Elt F) Λ₀ .tc) α} {Q : α → sProp 𝕄} {A B R : sProp 𝕄}
    (h : ∀ v, iprop(A ∗ B ∗ outPts m ρ c S ∗ R) ⊢ wpB c (k v) Q) :
    iprop(A ∗ B ∗ outPts m ρ c S ∗ R) ⊢ wpB c (.op (.load outM r hl) k) Q := by
  iintro ⟨HA, HB, Ho, HR⟩
  unfold outPts
  icases Ho with ⟨%f, %hf, Hp⟩
  iapply (wp_load 𝒱₀ (c : Thread nD τ) none Set.univ (m := outM) (Finset.subset_univ _)) $$ Hp
  iintro Hp
  iapply (h _)
  isplitl [HA]; · iexact HA
  isplitl [HB]; · iexact HB
  isplitr [HR]
  · unfold outPts
    iexists f
    isplitr; · ipureintro; exact hf
    iexact Hp
  iexact HR

theorem step_outstore (c d : Dev nD) {S : Finset (Dev nD)} {o : Fin 2 → ℕ} (ho : o = ![32 * d.val, 0]) {inb}
    {w : Vec F S32x512 .f32} (hw : w = rowsV m ρ c d)
    {hx : ((outM : Memref sig .tc .vmem S512x512 .f32).access (rowsR o inb)).Stores Finset.univ}
    {hm : (Finset.univ : Finset (rowsR o inb).shape.Idx) = Finset.univ ∨ ∀ a, (rowsR o inb).stride a = 1}
    {α : Type} {k : PUnit → Prog (TpuEff nD τ sig (Elt F) Λ₀ .tc) α} {Q : α → sProp 𝕄} {A B R : sProp 𝕄}
    (h : iprop(A ∗ B ∗ outPts m ρ c (insert d S) ∗ R) ⊢ wpB c (k ⟨⟩) Q) :
    iprop(A ∗ B ∗ outPts m ρ c S ∗ R) ⊢ wpB c (.op (.store outM (rowsR o inb) w Finset.univ hx hm) k) Q := by
  subst ho; subst hw
  iintro ⟨HA, HB, Ho, HR⟩
  unfold outPts
  icases Ho with ⟨%f, %hf, Hp⟩
  iapply (wp_store 𝒱₀ (c : Thread nD τ) none Set.univ (m := outM) (r := rowsR ![32 * d.val, 0] inb) (Mk := Finset.univ) (Finset.subset_univ _)) $$ Hp
  iintro Hp
  iapply h
  isplitl [HA]; · iexact HA
  isplitl [HB]; · iexact HB
  isplitr [HR]
  · unfold outPts
    iexists _
    isplitr
    rotate_left
    · iexact Hp
    · ipureintro; exact fun i hi => out_write m ρ c d S inb f hf i hi
  iexact HR

end Cert.KernelIdealProof

end
-- ==== Proof.Splits.lean ====
/-
The buffers cut into what the transfers carry, and put back together: the landing buffers into slots, the partial products
into the rows of each device, the source of the second exchange into shares. And the cells closed.
-/
module

public import proofs.«01_k».proof.Proof.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open SparseCore.ProtocolKit (finFrom finUpTo bigSep_finFrom_zero bigSep_finUpTo_zero bigSep_finFrom_self bigSep_finUpTo_self)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kid → ℕ)

/-! ## Slots -/

theorem slotSet_disjoint {n : ℕ} (e e' : Fin n) (h : e ≠ e') : Disjoint (slotSet n e) (slotSet n e') :=
  Finset.disjoint_left.mpr fun i hi hi' => h (Fin.ext ((Finset.mem_filter.mp hi).2.symm.trans (Finset.mem_filter.mp hi').2))

theorem slotSet_cover (n : ℕ) : (Finset.univ : Finset (Fin n)).biUnion (slotSet n) = Finset.univ :=
  Finset.eq_univ_iff_forall.mpr fun i => Finset.mem_biUnion.mpr ⟨⟨(i 0).val, (i 0).isLt⟩, Finset.mem_univ _, Finset.mem_filter.mpr ⟨Finset.mem_univ _, rfl⟩⟩

omit [FloatOps F] in
theorem cut {ℓ : Loc nD τ sig} {n : ℕ} (S : Fin n → Finset (Idx ℓ)) (hd : ∀ e e', e ≠ e' → Disjoint (S e) (S e'))
    (hc : (Finset.univ : Finset (Fin n)).biUnion S = Finset.univ) (f : Buf (Elt F) ℓ) :
    (ℓ ↦{fullShare} f : sProp 𝕄) = bigSep Finset.univ fun e => ℓ ↦[S e]{fullShare} f := by
  rw [← pointsTo_biUnion Finset.univ S fun e _ e' _ h => hd e e' h, hc]

omit [FloatOps F] in
theorem rs_cut (c : Dev nD) (f : Buf (Elt F) (rsL c)) : (rsL c ↦{fullShare} f : sProp 𝕄) = bigSep Finset.univ fun e => rsPts c e f := by
  unfold rsPts
  exact cut (ℓ := rsL c) (slotSet 15) slotSet_disjoint (slotSet_cover 15) f
omit [FloatOps F] in
theorem ag_cut (c : Dev nD) (f : Buf (Elt F) (agL c)) : (agL c ↦{fullShare} f : sProp 𝕄) = bigSep Finset.univ fun e => agPts c e f := by
  unfold agPts
  exact cut (ℓ := agL c) (slotSet 15) slotSet_disjoint (slotSet_cover 15) f

/-- A family over the devices: the device itself, and its fifteen partners. -/
theorem dev_split (c : Dev nD) (Φ : Dev nD → sProp 𝕄) : bigSep Finset.univ Φ = iprop(Φ c ∗ bigSep Finset.univ fun e => Φ (peer c e)) := by
  have he : (Finset.univ : Finset (Dev nD)).erase c = Finset.univ.map ⟨peer c, peer_inj c⟩ := by
    refine Finset.ext fun d => ⟨fun hd => ?_, fun hd => ?_⟩
    · have hne := (Finset.mem_erase.mp hd).1
      have hc : c.val < 16 := c.isLt
      have hd' : d.val < 16 := d.isLt
      have hv : d.val ≠ c.val := fun h => hne (Fin.ext h)
      refine Finset.mem_map.mpr ⟨⟨(d.val + 16 - c.val - 1) % 16, by omega⟩, Finset.mem_univ _, Fin.ext ?_⟩
      show (c.val + (d.val + 16 - c.val - 1) % 16 + 1) % 16 = d.val
      omega
    · obtain ⟨e, _, rfl⟩ := Finset.mem_map.mp hd
      exact Finset.mem_erase.mpr ⟨peer_ne c e, Finset.mem_univ _⟩
  rw [bigSep_univ_at Φ c, he, bigSep_map]
  rfl

theorem part_cut (c : Dev nD) :
    (partL c ↦{fullShare} (partialV m ρ c : Buf (Elt F) (partL c)) : sProp 𝕄) = iprop(partPts m ρ c c ∗ bigSep Finset.univ fun e => partPts m ρ c (peer c e)) := by
  rw [← dev_split c (partPts m ρ c)]
  unfold partPts
  exact cut (ℓ := partL c) (slotSet 16) slotSet_disjoint (slotSet_cover 16) (partialV m ρ c)

/-- The families a device hands out at the barrier, by the partner who gets them. -/
def revEquiv : Fin 15 ≃ Fin 15 := ⟨rev, rev, rev_rev, rev_rev⟩

omit [FloatOps F] in
theorem rs_deal (c : Dev nD) (f : Buf (Elt F) (rsL c)) :
    (rsL c ↦{fullShare} f : sProp 𝕄) ⊢ bigSep Finset.univ fun d => iprop(∃ f, rsPts (F := F) c (rev d) f) := by
  rw [rs_cut, bigSep_univ_equiv revEquiv]
  exact bigSep_mono fun d _ => by
    show rsPts c (rev d) f ⊢ _
    iintro H; iexists f; iexact H
omit [FloatOps F] in
theorem ag_deal (c : Dev nD) (f : Buf (Elt F) (agL c)) :
    (agL c ↦{fullShare} f : sProp 𝕄) ⊢ bigSep Finset.univ fun d => iprop(∃ f, agPts (F := F) c (rev d) f) := by
  rw [ag_cut, bigSep_univ_equiv revEquiv]
  exact bigSep_mono fun d _ => by
    show agPts c (rev d) f ⊢ _
    iintro H; iexists f; iexact H

/-! ## From one phase to the next -/

/-- Before the first signal. -/
theorem sigSt_intro (c : Dev nD) (f : Buf (Elt F) (rsL c)) (g : Buf (Elt F) (agL c)) :
    iprop(owing c (O₀ c) ∗ (bigSep Finset.univ fun d => dutyTok ER (bcell (peer c d)) 0 (rev d)) ∗ (rsL c ↦{fullShare} f) ∗ (agL c ↦{fullShare} g))
      ⊢ (sigSt c 0 : sProp 𝕄) := by
  unfold sigSt
  rw [bigSep_finFrom_zero, bigSep_sep', bigSep_sep']
  iintro ⟨HO, Ht, Hr, Ha⟩
  isplitl [HO]; · iexact HO
  isplitl [Ht]; · iexact Ht
  isplitl [Hr]
  · iapply (rs_deal c f); iexact Hr
  · iapply (ag_deal c g); iexact Ha

theorem Obar_end (c : Dev nD) : Obar c 15 = 0 := SparseCore.ProtocolKit.sum_finFrom_self _
theorem Ocp_end (j : Fin 4) (c : Dev nD) : Ocp j c 15 = 0 := SparseCore.ProtocolKit.sum_finFrom_self _

theorem sigSt_elim (c : Dev nD) : (sigSt c 15 : sProp 𝕄) ⊢ owing c (Ocp 3 c 0 + Ocp 1 c 0) := by
  unfold sigSt
  rw [Obar_end, add_zero]
  exact sep_elim_left

/-- Before the first send of the first exchange. -/
theorem rsSt_intro (c : Dev nD) :
    iprop(owing c (Ocp 3 c 0 + Ocp 1 c 0) ∗ (bigSep Finset.univ fun e => partPts m ρ c (peer c e)) ∗ (bigSep Finset.univ fun e => iprop(∃ f, rsPts (peer c e) e f))
        ∗ (bigSep Finset.univ fun e => dutyTok ER (dcell c 0 e) 0 (0 : Fin 15)) ∗ (bigSep Finset.univ fun e => dutyTok ER (dcell (peer c e) 1 e) 0 (0 : Fin 15)))
      ⊢ rsSt m ρ c 0 := by
  unfold rsSt
  rw [bigSep_finFrom_zero, bigSep_finUpTo_zero, bigSep_sep', bigSep_sep', bigSep_sep']
  iintro ⟨HO, H1, H2, H3, H4⟩
  isplitl [HO]; · iexact HO
  isplitl
  · isplitl [H1]; · iexact H1
    isplitl [H2]; · iexact H2
    isplitl [H3] <;> iassumption
  iempintro

theorem rsSt_elim (c : Dev nD) :
    rsSt m ρ c 15 ⊢ iprop(owing c (Ocp 3 c 0) ∗ bigSep Finset.univ fun e => cred (tallyAt (dcell c 0 e) () N)) := by
  unfold rsSt
  rw [Ocp_end, add_zero, bigSep_finUpTo_self]
  iintro ⟨HO, -, Hc⟩
  isplitl [HO] <;> iassumption

/-- Before the first send of the second exchange. -/
theorem agSt_intro (c : Dev nD) :
    iprop(owing c (Ocp 3 c 0) ∗ (bigSep Finset.univ fun e => srcPts m ρ c e) ∗ (bigSep Finset.univ fun e => iprop(∃ f, agPts (peer c e) e f))
        ∗ (bigSep Finset.univ fun e => dutyTok ER (dcell c 2 e) 0 (0 : Fin 15)) ∗ (bigSep Finset.univ fun e => dutyTok ER (dcell (peer c e) 3 e) 0 (0 : Fin 15)))
      ⊢ agSt m ρ c 0 := by
  unfold agSt
  rw [bigSep_finFrom_zero, bigSep_finUpTo_zero, bigSep_sep', bigSep_sep', bigSep_sep']
  iintro ⟨HO, H1, H2, H3, H4⟩
  isplitl [HO]; · iexact HO
  isplitl
  · isplitl [H1]; · iexact H1
    isplitl [H2]; · iexact H2
    isplitl [H3] <;> iassumption
  iempintro

theorem agSt_elim (c : Dev nD) :
    agSt m ρ c 15 ⊢ iprop(owing c 0 ∗ bigSep Finset.univ fun e => cred (tallyAt (dcell c 2 e) () N)) := by
  unfold agSt
  rw [Ocp_end, bigSep_finUpTo_self]
  iintro ⟨HO, -, Hc⟩
  isplitl [HO] <;> iassumption

theorem waitSt_intro (c : Dev nD) (j : Fin 4) (O : CellTallies nD τ sig Unit) :
    iprop(owing c O ∗ (bigSep Finset.univ fun e => cred (tallyAt (dcell c j e) () N)) ∗ (bigSep Finset.univ fun e => atPos ER (dcell c j e) 0 ∅ 0))
      ⊢ waitSt m ρ c j O 0 := by
  unfold waitSt
  rw [bigSep_finFrom_zero, bigSep_finUpTo_zero, bigSep_sep']
  iintro ⟨HO, H1, H2⟩
  isplitl [HO]; · iexact HO
  isplitl
  · isplitl [H1] <;> iassumption
  iempintro

theorem waitSt_elim (c : Dev nD) (j : Fin 4) (O : CellTallies nD τ sig Unit) :
    waitSt m ρ c j O 15 ⊢ iprop(owing c O ∗ (bigSep Finset.univ fun e => dmaPay m ρ c j e) ∗ (bigSep Finset.univ fun e => atPos ER (dcell c j e) 1 ∅ 0)) := by
  unfold waitSt
  rw [bigSep_finUpTo_self, bigSep_sep', bigSep_sep']
  iintro ⟨HO, -, H1, H2⟩
  isplitl [HO]; · iexact HO
  isplitl [H1] <;> iassumption

/-! ## The barrier's wait -/

theorem step_barrier (c : Dev nD) {k' : ℕ} (hk' : k' = 15)
    {α : Type} {k : PUnit → Prog (TpuEff nD τ sig (Elt F) Λ₀ .tc) α} {Q : α → sProp 𝕄} {R : sProp 𝕄}
    (h : iprop(env m ρ K ∗ owing c (Ocp 3 c 0 + Ocp 1 c 0) ∗ ((bigSep Finset.univ fun e => iprop(∃ f, rsPts (peer c e) e f))
        ∗ (bigSep Finset.univ fun e => iprop(∃ f, agPts (peer c e) e f)) ∗ atPos ER (bcell c) 1 ∅ 0) ∗ R) ⊢ wpB c (k ⟨⟩) Q) :
    iprop(env m ρ K ∗ owing c (Ocp 3 c 0 + Ocp 1 c 0) ∗ (cred (tallyAt (bcell c) () 15) ∗ atPos ER (bcell c) 0 ∅ 0) ∗ R)
      ⊢ wpB c (.op (.semWait barS k') k) Q := by
  subst hk'
  have hMay : env m ρ K ⊢ MayWait (c : Thread nD τ) (.reg barS) () (Ocp 3 c 0 + Ocp 1 c 0) :=
    (levs_of m ρ K).trans (mayWait_of c (.reg barS) 1 (le_of_eq (lv_bar c)) (above_add (above_ag 1 (by decide) c 0) (above_rs 1 (by decide) c 0)))
  iintro ⟨#He, HO, ⟨Hc, Hat⟩, HR⟩
  unfold owing
  icases HO with ⟨%W, HO⟩
  iapply (Rounds.wp_wait_rest_token 𝒱₀ ER (Rd m ρ) (c : Thread nD τ) none (κ := K (c, none))
      (wpE_semWait_eq 𝒱₀ (c : Thread nD τ) none Set.univ) (Set.mem_univ _) () (O := Ocp 3 c 0 + Ocp 1 c 0) (W := W) (R := 0) (m := 0) (T := ∅)
      ((Nat.zero_add 15).trans (expect_bar m ρ c).symm)) $$ [Hc HO Hat]
  · isplitr; · iapply (inv_of m ρ K (c, none)); iexact He
    isplitl [Hc]; · iexact Hc
    isplitl [HO]; · iexact HO
    isplitr; · iapply hMay; iexact He
    iexact Hat
  iintro ⟨HO, Hat, -, Hpay⟩
  ihave Hpay := (Entails.of_eq (rest_bar m ρ c)) $$ Hpay
  unfold barPay
  ihave Hpay := (Entails.of_eq (bigSep_sep' Finset.univ _ _)) $$ Hpay
  icases Hpay with ⟨Hr, Ha⟩
  iapply h
  isplitr; · iexact He
  isplitl [HO]
  · unfold owing; iexists _; iexact HO
  isplitr [HR]
  · isplitl [Hr]; · iexact Hr
    isplitl [Ha] <;> iassumption
  iexact HR

/-! ## The cells closed -/

theorem close_bar (c : Dev nD) : iprop(env m ρ K ∗ atPos ER (bcell c) 1 ∅ 0) ⊢ iprop(|={Set.univ}=> semVal (bcell c) 0) := by
  iintro ⟨#He, Hat⟩
  iapply (Rounds.cell_close ER (Rd m ρ) (Set.mem_univ (K (c, none))) (fun h => h) (R := 1) (duties_later m ρ (bcell c)))
  isplitr; · iapply (inv_of m ρ K (c, none)); iexact He
  iexact Hat

theorem close_dma (c : Dev nD) (j : Fin 4) :
    iprop(env m ρ K ∗ bigSep Finset.univ fun e => atPos ER (dcell c j e) 1 ∅ 0) ⊢ iprop(|={Set.univ}=> bigSep Finset.univ fun e => semVal (dcell c j e) 0) := by
  refine (bigSep_with_persistent (Ψ := fun e => iprop(|={Set.univ}=> semVal (dcell c j e) 0)) fun e _ => ?_).trans (bigSep_fupd _ _)
  iintro ⟨#He, Hat⟩
  iapply (Rounds.cell_close ER (Rd m ρ) (Set.mem_univ (K (c, some (j, e)))) (fun h => h) (R := 1) (duties_later m ρ (dcell c j e)))
  isplitr; · iapply (inv_of m ρ K (c, some (j, e))); iexact He
  iexact Hat

end Cert.KernelIdealProof

end
-- ==== Proof.Local.lean ====
/-
The loads and stores of the device's own buffers, and the states between the phases of the body.
-/
module

public import proofs.«01_k».proof.Proof.Splits

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kid → ℕ)

/-! ## The device's own arguments -/

/-- The four argument blocks in their staging buffers. -/
def stages (c : Dev nD) : sProp 𝕄 :=
  iprop(((c : Thread nD τ).loc cc0_stg0_0 ↦{fullShare} xstg m ρ c) ∗ ((c : Thread nD τ).loc cc0_stg1_0 ↦{fullShare} wrstg m ρ c)
    ∗ ((c : Thread nD τ).loc cc0_stg2_0 ↦{fullShare} ristg m ρ c) ∗ ((c : Thread nD τ).loc cc0_stg3_0 ↦{fullShare} ewstg m ρ c))

theorem zero2 : (![0, 0] : Fin 2 → Nat) = fun _ => 0 := funext fun a => by fin_cases a <;> rfl
theorem zero3 : (![0, 0, 0] : Fin 3 → Nat) = fun _ => 0 := funext fun a => by fin_cases a <;> rfl

theorem step_x (c : Dev nD) {inb} {hl : (xM : Memref sig .tc .vmem S512x256 .bf16).view.LoadsAt (Rect.unit (s := S512x256) ![0, 0] S512x256.size inb).toLoadRect}
    {α : Type} {k : Vec F S512x256 .bf16 → Prog (TpuEff nD τ sig (Elt F) Λ₀ .tc) α} {Q : α → sProp 𝕄} {A R : sProp 𝕄}
    (h : iprop(A ∗ stages m ρ c ∗ R) ⊢ wpB c (k (xstg m ρ c)) Q) :
    iprop(A ∗ stages m ρ c ∗ R) ⊢ wpB c (.op (.load xM (Rect.unit (s := S512x256) ![0, 0] S512x256.size inb).toLoadRect hl) k) Q := by
  iintro ⟨HA, Hs, HR⟩
  unfold stages
  icases Hs with ⟨Hx, Hw, Hi, He⟩
  iapply (wp_load 𝒱₀ (c : Thread nD τ) none Set.univ (m := xM) (Finset.subset_univ _)) $$ Hx
  iintro Hx
  rw [show (xM : Memref sig .tc .vmem S512x256 .bf16).view.readAt (Elt F) (Rect.unit (s := S512x256) ![0, 0] S512x256.size inb).toLoadRect (xstg m ρ c) = xstg m ρ c from
    Memref.readAt_unit_zero (Elt F) cc0_stg0_0 zero2 _ _]
  iapply h
  unfold stages
  iframe

theorem step_ri (c : Dev nD) {inb} {hl : (riM : Memref sig .tc .vmem S512x1 .i32).view.LoadsAt (Rect.unit (s := S512x1) ![0, 0] S512x1.size inb).toLoadRect}
    {α : Type} {k : Vec F S512x1 .i32 → Prog (TpuEff nD τ sig (Elt F) Λ₀ .tc) α} {Q : α → sProp 𝕄} {A R : sProp 𝕄}
    (h : iprop(A ∗ stages m ρ c ∗ R) ⊢ wpB c (k (ristg m ρ c)) Q) :
    iprop(A ∗ stages m ρ c ∗ R) ⊢ wpB c (.op (.load riM (Rect.unit (s := S512x1) ![0, 0] S512x1.size inb).toLoadRect hl) k) Q := by
  iintro ⟨HA, Hs, HR⟩
  unfold stages
  icases Hs with ⟨Hx, Hw, Hi, He⟩
  iapply (wp_load 𝒱₀ (c : Thread nD τ) none Set.univ (m := riM) (Finset.subset_univ _)) $$ Hi
  iintro Hi
  rw [show (riM : Memref sig .tc .vmem S512x1 .i32).view.readAt (Elt F) (Rect.unit (s := S512x1) ![0, 0] S512x1.size inb).toLoadRect (ristg m ρ c) = ristg m ρ c from
    Memref.readAt_unit_zero (Elt F) cc0_stg2_0 zero2 _ _]
  iapply h
  unfold stages
  iframe

theorem step_expert (c : Dev nD) (e : Fin 2) {o : Fin 3 → ℕ} (ho : o = ![e.val, 0, 0]) {inb}
    {hl : (ewM : Memref sig .tc .vmem S2x256x512 .bf16).view.LoadsAt (Rect.unit (s := S2x256x512) o S1x256x512.size inb).toLoadRect}
    {α : Type} {k : Vec F S1x256x512 .bf16 → Prog (TpuEff nD τ sig (Elt F) Λ₀ .tc) α} {Q : α → sProp 𝕄} {A R : sProp 𝕄}
    (h : iprop(A ∗ stages m ρ c ∗ R) ⊢ wpB c (k (expertV m ρ c e)) Q) :
    iprop(A ∗ stages m ρ c ∗ R) ⊢ wpB c (.op (.load ewM (Rect.unit (s := S2x256x512) o S1x256x512.size inb).toLoadRect hl) k) Q := by
  subst ho
  iintro ⟨HA, Hs, HR⟩
  unfold stages
  icases Hs with ⟨Hx, Hw, Hi, He⟩
  iapply (wp_load_rect 𝒱₀ (c : Thread nD τ) none Set.univ (m := ewM) (r := Rect.unit (s := S2x256x512) ![e.val, 0, 0] S1x256x512.size inb) (Finset.subset_univ _)) $$ He
  iintro He
  rw [expert_read m ρ c e inb]
  iapply h
  unfold stages
  iframe

/-! ## The partial products -/

def partSome (c : Dev nD) : sProp 𝕄 := iprop(∃ f : Buf (Elt F) (partL c), partL c ↦{fullShare} f)
def srcSome (c : Dev nD) : sProp 𝕄 := iprop(∃ f : Buf (Elt F) (srcL c), srcL c ↦{fullShare} f)
def rsSome (c : Dev nD) : sProp 𝕄 := iprop(∃ f : Buf (Elt F) (rsL c), rsL c ↦{fullShare} f)
def agSome (c : Dev nD) : sProp 𝕄 := iprop(∃ f : Buf (Elt F) (agL c), agL c ↦{fullShare} f)

/-- The body reads the buffer before overwriting it; what it reads is not used. -/
theorem step_partload (c : Dev nD) {r : LoadRect S16x32x512} {hl : (partM : Memref sig .tc .vmem S16x32x512 .bf16).view.LoadsAt r}
    {α : Type} {k : (r.shape.Idx → Elt F .bf16) → Prog (TpuEff nD τ sig (Elt F) Λ₀ .tc) α} {Q : α → sProp 𝕄} {A B R : sProp 𝕄}
    (h : ∀ v, iprop(A ∗ B ∗ partSome c ∗ R) ⊢ wpB c (k v) Q) :
    iprop(A ∗ B ∗ partSome c ∗ R) ⊢ wpB c (.op (.load partM r hl) k) Q := by
  iintro ⟨HA, HB, Ho, HR⟩
  unfold partSome
  icases Ho with ⟨%f, Hp⟩
  iapply (wp_load 𝒱₀ (c : Thread nD τ) none Set.univ (m := partM) (Finset.subset_univ _)) $$ Hp
  iintro Hp
  iapply (h _)
  iframe HA HB HR
  unfold partSome
  iexists f; iexact Hp

theorem step_partstore (c : Dev nD) {inb} {w : Vec F S16x32x512 .bf16} (hw : w = partialV m ρ c)
    {hx : ((partM : Memref sig .tc .vmem S16x32x512 .bf16).access (Rect.unit (s := S16x32x512) ![0, 0, 0] S16x32x512.size inb)).Stores Finset.univ}
    {hm : (Finset.univ : Finset (Rect.unit (s := S16x32x512) ![0, 0, 0] S16x32x512.size inb).shape.Idx) = Finset.univ ∨ ∀ a, (Rect.unit (s := S16x32x512) ![0, 0, 0] S16x32x512.size inb).stride a = 1}
    {α : Type} {k : PUnit → Prog (TpuEff nD τ sig (Elt F) Λ₀ .tc) α} {Q : α → sProp 𝕄} {A B R : sProp 𝕄}
    (h : iprop(A ∗ B ∗ (partL c ↦{fullShare} (partialV m ρ c : Buf (Elt F) (partL c))) ∗ R) ⊢ wpB c (k ⟨⟩) Q) :
    iprop(A ∗ B ∗ partSome c ∗ R) ⊢ wpB c (.op (.store partM (Rect.unit (s := S16x32x512) ![0, 0, 0] S16x32x512.size inb) w Finset.univ hx hm) k) Q := by
  subst hw
  iintro ⟨HA, HB, Ho, HR⟩
  unfold partSome
  icases Ho with ⟨%f, Hp⟩
  iapply (wp_store 𝒱₀ (c : Thread nD τ) none Set.univ (m := partM) (r := Rect.unit (s := S16x32x512) ![0, 0, 0] S16x32x512.size inb) (Mk := Finset.univ) (Finset.subset_univ _)) $$ Hp
  iintro Hp
  rw [show ((partM : Memref sig .tc .vmem S16x32x512 .bf16).access (Rect.unit (s := S16x32x512) ![0, 0, 0] S16x32x512.size inb) : View sig .tc _ _ _).write (Elt F) f (partialV m ρ c) Finset.univ
    = partialV m ρ c from Memref.write_access_unit_zero_univ (Elt F) cc0_scratch0 zero3 _ f _]
  iapply h
  iframe

/-- The body's own rows among the partial products. -/
theorem step_ownload (c : Dev nD) {o : Fin 3 → ℕ} (ho : o = ![c.val, 0, 0]) {inb}
    {hl : (partM : Memref sig .tc .vmem S16x32x512 .bf16).view.LoadsAt (Rect.unit (s := S16x32x512) o S1x32x512.size inb).toLoadRect}
    {α : Type} {k : Vec F S1x32x512 .bf16 → Prog (TpuEff nD τ sig (Elt F) Λ₀ .tc) α} {Q : α → sProp 𝕄} {A B R : sProp 𝕄}
    (h : iprop(A ∗ B ∗ partPts m ρ c c ∗ R) ⊢ wpB c (k (chunkOf m ρ c c)) Q) :
    iprop(A ∗ B ∗ partPts m ρ c c ∗ R) ⊢ wpB c (.op (.load partM (Rect.unit (s := S16x32x512) o S1x32x512.size inb).toLoadRect hl) k) Q := by
  subst ho
  iintro ⟨HA, HB, Hp, HR⟩
  unfold partPts
  iapply (wp_load_rect 𝒱₀ (c : Thread nD τ) none Set.univ (m := partM) (r := Rect.unit (s := S16x32x512) ![c.val, 0, 0] S1x32x512.size inb) (by rw [View.set_slice_whole]; exact unit_set_sub (n := 16) c inb)) $$ Hp
  iintro Hp
  rw [part_read m ρ c c inb]
  iapply h
  unfold partPts
  iframe

/-! ## The summed rows -/

theorem step_srcload (c : Dev nD) {r : LoadRect S32x512} {hl : (srcM : Memref sig .tc .vmem S32x512 .bf16).view.LoadsAt r}
    {α : Type} {k : (r.shape.Idx → Elt F .bf16) → Prog (TpuEff nD τ sig (Elt F) Λ₀ .tc) α} {Q : α → sProp 𝕄} {A B R : sProp 𝕄}
    (h : ∀ v, iprop(A ∗ B ∗ srcSome c ∗ R) ⊢ wpB c (k v) Q) :
    iprop(A ∗ B ∗ srcSome c ∗ R) ⊢ wpB c (.op (.load srcM r hl) k) Q := by
  iintro ⟨HA, HB, Ho, HR⟩
  unfold srcSome
  icases Ho with ⟨%f, Hp⟩
  iapply (wp_load 𝒱₀ (c : Thread nD τ) none Set.univ (m := srcM) (Finset.subset_univ _)) $$ Hp
  iintro Hp
  iapply (h _)
  iframe HA HB HR
  unfold srcSome
  iexists f; iexact Hp

theorem step_srcstore (c : Dev nD) {inb} {w : Vec F S32x512 .bf16} (hw : w = agV m ρ c)
    {hx : ((srcM : Memref sig .tc .vmem S32x512 .bf16).access (Rect.unit (s := S32x512) ![0, 0] S32x512.size inb)).Stores Finset.univ}
    {hm : (Finset.univ : Finset (Rect.unit (s := S32x512) ![0, 0] S32x512.size inb).shape.Idx) = Finset.univ ∨ ∀ a, (Rect.unit (s := S32x512) ![0, 0] S32x512.size inb).stride a = 1}
    {α : Type} {k : PUnit → Prog (TpuEff nD τ sig (Elt F) Λ₀ .tc) α} {Q : α → sProp 𝕄} {A B R : sProp 𝕄}
    (h : iprop(A ∗ B ∗ (srcL c ↦{fullShare} (agV m ρ c : Buf (Elt F) (srcL c))) ∗ R) ⊢ wpB c (k ⟨⟩) Q) :
    iprop(A ∗ B ∗ srcSome c ∗ R) ⊢ wpB c (.op (.store srcM (Rect.unit (s := S32x512) ![0, 0] S32x512.size inb) w Finset.univ hx hm) k) Q := by
  subst hw
  iintro ⟨HA, HB, Ho, HR⟩
  unfold srcSome
  icases Ho with ⟨%f, Hp⟩
  iapply (wp_store 𝒱₀ (c : Thread nD τ) none Set.univ (m := srcM) (r := Rect.unit (s := S32x512) ![0, 0] S32x512.size inb) (Mk := Finset.univ) (Finset.subset_univ _)) $$ Hp
  iintro Hp
  rw [show ((srcM : Memref sig .tc .vmem S32x512 .bf16).access (Rect.unit (s := S32x512) ![0, 0] S32x512.size inb) : View sig .tc _ _ _).write (Elt F) f (agV m ρ c) Finset.univ
    = agV m ρ c from Memref.write_access_unit_zero_univ (Elt F) cc0_scratch1 zero2 _ f _]
  iapply h
  iframe

/-! ## The states between the phases -/

/-- The tokens of the duties device `c` pays on array `j`: its own cells for the sends, its partners' for the receipts. -/
def toks (c : Dev nD) (j : Fin 4) : sProp 𝕄 := bigSep Finset.univ fun e => dutyTok ER (dcell c j e) 0 (0 : Fin 15)
def toksTo (c : Dev nD) (j : Fin 4) : sProp 𝕄 := bigSep Finset.univ fun e => dutyTok ER (dcell (peer c e) j e) 0 (0 : Fin 15)
def creds (c : Dev nD) (j : Fin 4) : sProp 𝕄 := bigSep Finset.univ fun e => cred (tallyAt (dcell c j e) () N)
def opened (c : Dev nD) (j : Fin 4) : sProp 𝕄 := bigSep Finset.univ fun e => atPos ER (dcell c j e) 0 ∅ 0
def done (c : Dev nD) (j : Fin 4) : sProp 𝕄 := bigSep Finset.univ fun e => atPos ER (dcell c j e) 1 ∅ 0
def paid (c : Dev nD) (j : Fin 4) : sProp 𝕄 := bigSep Finset.univ fun e => dmaPay m ρ c j e
def zeroed (c : Dev nD) (j : Fin 4) : sProp 𝕄 := bigSep Finset.univ fun e => semVal (dcell c j e) 0
def barIn (c : Dev nD) : sProp 𝕄 := iprop(cred (tallyAt (bcell c) () 15) ∗ atPos ER (bcell c) 0 ∅ 0)
def barToks (c : Dev nD) : sProp 𝕄 := bigSep Finset.univ fun d => dutyTok ER (bcell (peer c d)) 0 (rev d)
def agLent (c : Dev nD) : sProp 𝕄 := bigSep Finset.univ fun e => iprop(∃ f, agPts (F := F) (peer c e) e f)
def rsLent (c : Dev nD) : sProp 𝕄 := bigSep Finset.univ fun e => iprop(∃ f, rsPts (F := F) (peer c e) e f)
def outSome (c : Dev nD) : sProp 𝕄 := iprop(∃ f : Buf (Elt F) (outL c), outL c ↦{fullShare} f)

/-- What device `c` holds when its body starts, but for what it knows. -/
def bodyIn (c : Dev nD) : sProp 𝕄 :=
  iprop(owing c (O₀ c) ∗ barToks c ∗ rsSome c ∗ agSome c
    ∗ barIn c ∗ (toks c 0 ∗ toksTo c 1) ∗ (toks c 2 ∗ toksTo c 3) ∗ (creds c 1 ∗ creds c 3) ∗ (opened c 0 ∗ opened c 1 ∗ opened c 2 ∗ opened c 3)
    ∗ stages m ρ c ∗ outSome c ∗ partSome c ∗ srcSome c)

/-- What it holds when its body returns. -/
def bodyOut (c : Dev nD) : sProp 𝕄 :=
  iprop(owing c 0 ∗ stages m ρ c ∗ (outL c ↦{fullShare} (outFinal m ρ c : Buf (Elt F) (outL c))) ∗ partSome c ∗ srcSome c ∗ rsSome c ∗ agSome c
    ∗ semVal (bcell c) 0 ∗ zeroed c 0 ∗ zeroed c 1 ∗ zeroed c 2 ∗ zeroed c 3)

theorem turn_signals (c : Dev nD) (Z : sProp 𝕄) :
    iprop(env m ρ K ∗ bodyIn m ρ c ∗ Z) ⊢ iprop(env m ρ K ∗ sigSt c 0
      ∗ barIn c ∗ (toks c 0 ∗ toksTo c 1) ∗ (toks c 2 ∗ toksTo c 3) ∗ (creds c 1 ∗ creds c 3) ∗ (opened c 0 ∗ opened c 1 ∗ opened c 2 ∗ opened c 3)
      ∗ stages m ρ c ∗ outSome c ∗ partSome c ∗ srcSome c ∗ Z) := by
  iintro ⟨He, Hb, HZ⟩
  unfold bodyIn
  icases Hb with ⟨HO, Ht, Hr, Ha, HR⟩
  unfold rsSome agSome
  icases Hr with ⟨%f, Hr⟩
  icases Ha with ⟨%g, Ha⟩
  isplitl [He]; · iexact He
  isplitl [HO Ht Hr Ha]
  · iapply (sigSt_intro c f g)
    unfold barToks
    iframe
  icases HR with ⟨H1, H2, H3, H4, H5, H6, H7, H8, H9⟩
  iframe

theorem turn_partial (c : Dev nD) (Z : sProp 𝕄) :
    iprop(env m ρ K ∗ sigSt c 15
      ∗ barIn c ∗ (toks c 0 ∗ toksTo c 1) ∗ (toks c 2 ∗ toksTo c 3) ∗ (creds c 1 ∗ creds c 3) ∗ (opened c 0 ∗ opened c 1 ∗ opened c 2 ∗ opened c 3)
      ∗ stages m ρ c ∗ outSome c ∗ partSome c ∗ srcSome c ∗ Z) ⊢
    iprop(env m ρ K ∗ stages m ρ c ∗ partSome c ∗ owing c (Ocp 3 c 0 + Ocp 1 c 0)
      ∗ barIn c ∗ (toks c 0 ∗ toksTo c 1) ∗ (toks c 2 ∗ toksTo c 3) ∗ (creds c 1 ∗ creds c 3) ∗ (opened c 0 ∗ opened c 1 ∗ opened c 2 ∗ opened c 3)
      ∗ outSome c ∗ srcSome c ∗ Z) := by
  iintro ⟨He, Hs, H1, H2, H3, H4, H5, H6, H7, H8, H9, HZ⟩
  ihave Hs := (sigSt_elim c) $$ Hs
  iframe

theorem turn_barrier (c : Dev nD) (Z : sProp 𝕄) :
    iprop(env m ρ K ∗ stages m ρ c ∗ (partL c ↦{fullShare} (partialV m ρ c : Buf (Elt F) (partL c))) ∗ owing c (Ocp 3 c 0 + Ocp 1 c 0)
      ∗ barIn c ∗ (toks c 0 ∗ toksTo c 1) ∗ (toks c 2 ∗ toksTo c 3) ∗ (creds c 1 ∗ creds c 3) ∗ (opened c 0 ∗ opened c 1 ∗ opened c 2 ∗ opened c 3)
      ∗ outSome c ∗ srcSome c ∗ Z) ⊢
    iprop(env m ρ K ∗ owing c (Ocp 3 c 0 + Ocp 1 c 0) ∗ (cred (tallyAt (bcell c) () 15) ∗ atPos ER (bcell c) 0 ∅ 0)
      ∗ (partL c ↦{fullShare} (partialV m ρ c : Buf (Elt F) (partL c)))
      ∗ (toks c 0 ∗ toksTo c 1) ∗ (toks c 2 ∗ toksTo c 3) ∗ (creds c 1 ∗ creds c 3) ∗ (opened c 0 ∗ opened c 1 ∗ opened c 2 ∗ opened c 3)
      ∗ stages m ρ c ∗ outSome c ∗ srcSome c ∗ Z) := by
  iintro ⟨He, Hst, Hp, HO, Hb, H2, H3, H4, H5, H6, H7, HZ⟩
  unfold barIn
  iframe

theorem turn_rs (c : Dev nD) (Z : sProp 𝕄) :
    iprop(env m ρ K ∗ owing c (Ocp 3 c 0 + Ocp 1 c 0) ∗ ((bigSep Finset.univ fun e => iprop(∃ f, rsPts (peer c e) e f))
        ∗ (bigSep Finset.univ fun e => iprop(∃ f, agPts (peer c e) e f)) ∗ atPos ER (bcell c) 1 ∅ 0)
      ∗ (partL c ↦{fullShare} (partialV m ρ c : Buf (Elt F) (partL c)))
      ∗ (toks c 0 ∗ toksTo c 1) ∗ (toks c 2 ∗ toksTo c 3) ∗ (creds c 1 ∗ creds c 3) ∗ (opened c 0 ∗ opened c 1 ∗ opened c 2 ∗ opened c 3)
      ∗ stages m ρ c ∗ outSome c ∗ srcSome c ∗ Z) ⊢
    iprop(env m ρ K ∗ rsSt m ρ c 0 ∗ partPts m ρ c c ∗ agLent c ∗ atPos ER (bcell c) 1 ∅ 0
      ∗ (toks c 2 ∗ toksTo c 3) ∗ (creds c 1 ∗ creds c 3) ∗ (opened c 0 ∗ opened c 1 ∗ opened c 2 ∗ opened c 3)
      ∗ stages m ρ c ∗ outSome c ∗ srcSome c ∗ Z) := by
  iintro ⟨He, HO, ⟨Hr, Ha, Hat⟩, Hp, ⟨Ht0, Ht1⟩, H3, H4, H5, H6, H7, H8, HZ⟩
  ihave Hp := (Entails.of_eq (part_cut m ρ c)) $$ Hp
  icases Hp with ⟨Hown, Hp⟩
  isplitl [He]; · iexact He
  isplitl [HO Hp Hr Ht0 Ht1]
  · iapply (rsSt_intro m ρ c)
    unfold toks toksTo
    iframe
  unfold agLent
  iframe

theorem turn_rswait (c : Dev nD) (Z : sProp 𝕄) :
    iprop(env m ρ K ∗ rsSt m ρ c 15 ∗ partPts m ρ c c ∗ agLent c ∗ atPos ER (bcell c) 1 ∅ 0
      ∗ (toks c 2 ∗ toksTo c 3) ∗ (creds c 1 ∗ creds c 3) ∗ (opened c 0 ∗ opened c 1 ∗ opened c 2 ∗ opened c 3)
      ∗ stages m ρ c ∗ outSome c ∗ srcSome c ∗ Z) ⊢
    iprop(env m ρ K ∗ waitSt m ρ c 1 (Ocp 3 c 0) 0 ∗ partPts m ρ c c ∗ agLent c ∗ atPos ER (bcell c) 1 ∅ 0
      ∗ (toks c 2 ∗ toksTo c 3) ∗ (creds c 0 ∗ creds c 3) ∗ (opened c 0 ∗ opened c 2 ∗ opened c 3)
      ∗ stages m ρ c ∗ outSome c ∗ srcSome c ∗ Z) := by
  iintro ⟨He, Hs, Hown, Ha, Hat, H3, ⟨Hc1, Hc3⟩, ⟨Ho0, Ho1, Ho2, Ho3⟩, H6, H7, H8, HZ⟩
  ihave Hs := (rsSt_elim m ρ c) $$ Hs
  icases Hs with ⟨HO, Hc0⟩
  isplitl [He]; · iexact He
  isplitl [HO Hc1 Ho1]
  · iapply (waitSt_intro m ρ c 1 (Ocp 3 c 0))
    unfold creds opened
    iframe
  unfold creds
  iframe

theorem turn_src (c : Dev nD) (Z : sProp 𝕄) :
    iprop(env m ρ K ∗ waitSt m ρ c 1 (Ocp 3 c 0) 15 ∗ partPts m ρ c c ∗ agLent c ∗ atPos ER (bcell c) 1 ∅ 0
      ∗ (toks c 2 ∗ toksTo c 3) ∗ (creds c 0 ∗ creds c 3) ∗ (opened c 0 ∗ opened c 2 ∗ opened c 3)
      ∗ stages m ρ c ∗ outSome c ∗ srcSome c ∗ Z) ⊢
    iprop(env m ρ K ∗ owing c (Ocp 3 c 0) ∗ srcSome c ∗ paid m ρ c 1 ∗ done c 1 ∗ partPts m ρ c c ∗ agLent c ∗ atPos ER (bcell c) 1 ∅ 0
      ∗ (toks c 2 ∗ toksTo c 3) ∗ (creds c 0 ∗ creds c 3) ∗ (opened c 0 ∗ opened c 2 ∗ opened c 3)
      ∗ stages m ρ c ∗ outSome c ∗ Z) := by
  iintro ⟨He, Hs, Hown, Ha, Hat, H3, H4, H5, H6, H7, H8, HZ⟩
  ihave Hs := (waitSt_elim m ρ c 1 (Ocp 3 c 0)) $$ Hs
  icases Hs with ⟨HO, Hp, Hd⟩
  unfold paid done
  iframe

/-- What stays of the source of the second exchange when its shares are out. -/
def srcRest (c : Dev nD) : sProp 𝕄 := iprop(srcL c ↦{Transfers.shareDrop fullShare 15} (agV m ρ c : Buf (Elt F) (srcL c)))

theorem turn_ag (c : Dev nD) (Z : sProp 𝕄) :
    iprop(env m ρ K ∗ owing c (Ocp 3 c 0) ∗ (srcL c ↦{fullShare} (agV m ρ c : Buf (Elt F) (srcL c))) ∗ paid m ρ c 1 ∗ done c 1 ∗ partPts m ρ c c ∗ agLent c ∗ atPos ER (bcell c) 1 ∅ 0
      ∗ (toks c 2 ∗ toksTo c 3) ∗ (creds c 0 ∗ creds c 3) ∗ (opened c 0 ∗ opened c 2 ∗ opened c 3)
      ∗ stages m ρ c ∗ outSome c ∗ Z) ⊢
    iprop(env m ρ K ∗ agSt m ρ c 0 ∗ srcRest m ρ c ∗ paid m ρ c 1 ∗ done c 1 ∗ partPts m ρ c c ∗ atPos ER (bcell c) 1 ∅ 0
      ∗ (creds c 0 ∗ creds c 3) ∗ (opened c 0 ∗ opened c 2 ∗ opened c 3)
      ∗ stages m ρ c ∗ outSome c ∗ Z) := by
  iintro ⟨He, HO, Hs, Hp, Hd, Hown, Ha, Hat, ⟨Ht2, Ht3⟩, H4, H5, H6, H7, HZ⟩
  ihave Hs := (Transfers.pointsTo_toks_split fullShare 15) $$ Hs
  icases Hs with ⟨Hrest, Hs⟩
  isplitl [He]; · iexact He
  isplitl [HO Hs Ha Ht2 Ht3]
  · iapply (agSt_intro m ρ c)
    unfold toks toksTo agLent srcPts
    iframe
  unfold srcRest
  iframe

theorem turn_out (c : Dev nD) (Z : sProp 𝕄) :
    iprop(env m ρ K ∗ agSt m ρ c 15 ∗ srcRest m ρ c ∗ paid m ρ c 1 ∗ done c 1 ∗ partPts m ρ c c ∗ atPos ER (bcell c) 1 ∅ 0
      ∗ (creds c 0 ∗ creds c 3) ∗ (opened c 0 ∗ opened c 2 ∗ opened c 3)
      ∗ stages m ρ c ∗ outSome c ∗ Z) ⊢
    iprop(env m ρ K ∗ waitSt m ρ c 3 0 0 ∗ outPts m ρ c ∅ ∗ srcRest m ρ c ∗ paid m ρ c 1 ∗ done c 1 ∗ partPts m ρ c c ∗ atPos ER (bcell c) 1 ∅ 0
      ∗ (creds c 0 ∗ creds c 2) ∗ (opened c 0 ∗ opened c 2)
      ∗ stages m ρ c ∗ Z) := by
  iintro ⟨He, Hs, Hrest, Hp, Hd, Hown, Hat, ⟨Hc0, Hc3⟩, ⟨Ho0, Ho2, Ho3⟩, H6, H7, HZ⟩
  ihave Hs := (agSt_elim m ρ c) $$ Hs
  icases Hs with ⟨HO, Hc2⟩
  isplitl [He]; · iexact He
  isplitl [HO Hc3 Ho3]
  · iapply (waitSt_intro m ρ c 3 0)
    unfold creds opened
    iframe
  isplitl [H7]
  · unfold outSome outPts
    icases H7 with ⟨%f, H7⟩
    iexists f
    isplitr; · ipureintro; exact fun i hi => absurd hi (Finset.notMem_empty _)
    iexact H7
  unfold creds
  iframe

theorem turn_rssent (c : Dev nD) (S : Finset (Dev nD)) (Z : sProp 𝕄) :
    iprop(env m ρ K ∗ waitSt m ρ c 3 0 15 ∗ outPts m ρ c S ∗ srcRest m ρ c ∗ paid m ρ c 1 ∗ done c 1 ∗ partPts m ρ c c ∗ atPos ER (bcell c) 1 ∅ 0
      ∗ (creds c 0 ∗ creds c 2) ∗ (opened c 0 ∗ opened c 2)
      ∗ stages m ρ c ∗ Z) ⊢
    iprop(env m ρ K ∗ waitSt m ρ c 0 0 0 ∗ outPts m ρ c S ∗ srcRest m ρ c ∗ (paid m ρ c 1 ∗ paid m ρ c 3) ∗ (done c 1 ∗ done c 3) ∗ partPts m ρ c c ∗ atPos ER (bcell c) 1 ∅ 0
      ∗ creds c 2 ∗ opened c 2
      ∗ stages m ρ c ∗ Z) := by
  iintro ⟨He, Hs, Hout, Hrest, Hp, Hd, Hown, Hat, ⟨Hc0, Hc2⟩, ⟨Ho0, Ho2⟩, H6, HZ⟩
  ihave Hs := (waitSt_elim m ρ c 3 0) $$ Hs
  icases Hs with ⟨HO, Hp3, Hd3⟩
  isplitl [He]; · iexact He
  isplitl [HO Hc0 Ho0]
  · iapply (waitSt_intro m ρ c 0 0)
    unfold creds opened
    iframe
  unfold paid done
  iframe

theorem turn_agsent (c : Dev nD) (S : Finset (Dev nD)) (Z : sProp 𝕄) :
    iprop(env m ρ K ∗ waitSt m ρ c 0 0 15 ∗ outPts m ρ c S ∗ srcRest m ρ c ∗ (paid m ρ c 1 ∗ paid m ρ c 3) ∗ (done c 1 ∗ done c 3) ∗ partPts m ρ c c ∗ atPos ER (bcell c) 1 ∅ 0
      ∗ creds c 2 ∗ opened c 2
      ∗ stages m ρ c ∗ Z) ⊢
    iprop(env m ρ K ∗ waitSt m ρ c 2 0 0 ∗ outPts m ρ c S ∗ srcRest m ρ c ∗ (paid m ρ c 0 ∗ paid m ρ c 1 ∗ paid m ρ c 3) ∗ (done c 0 ∗ done c 1 ∗ done c 3) ∗ partPts m ρ c c ∗ atPos ER (bcell c) 1 ∅ 0
      ∗ stages m ρ c ∗ Z) := by
  iintro ⟨He, Hs, Hout, Hrest, ⟨Hp1, Hp3⟩, ⟨Hd1, Hd3⟩, Hown, Hat, Hc2, Ho2, H6, HZ⟩
  ihave Hs := (waitSt_elim m ρ c 0 0) $$ Hs
  icases Hs with ⟨HO, Hp0, Hd0⟩
  isplitl [He]; · iexact He
  isplitl [HO Hc2 Ho2]
  · iapply (waitSt_intro m ρ c 2 0)
    unfold creds opened
    iframe
  unfold paid done
  iframe

/-- All rows written. -/
theorem out_whole (c : Dev nD) (S : Finset (Dev nD)) (hS : S = Finset.univ) :
    outPts m ρ c S ⊢ (outL c ↦{fullShare} (outFinal m ρ c : Buf (Elt F) (outL c)) : sProp 𝕄) := by
  subst hS
  unfold outPts
  iintro ⟨%f, %hf, H⟩
  have : f = outFinal m ρ c := funext fun i => hf i (Finset.mem_univ _)
  subst this
  iexact H

theorem turn_end (c : Dev nD) (S : Finset (Dev nD)) (hS : S = Finset.univ) (Z : PUnit → sProp 𝕄) :
    iprop(env m ρ K ∗ waitSt m ρ c 2 0 15 ∗ outPts m ρ c S ∗ srcRest m ρ c ∗ (paid m ρ c 0 ∗ paid m ρ c 1 ∗ paid m ρ c 3) ∗ (done c 0 ∗ done c 1 ∗ done c 3) ∗ partPts m ρ c c ∗ atPos ER (bcell c) 1 ∅ 0
      ∗ stages m ρ c ∗ (bodyOut m ρ c -∗ Z ⟨⟩)) ⊢ wpB c (.ret ⟨⟩) Z := by
  iintro ⟨#He, Hs, Hout, Hrest, ⟨Hp0, Hp1, Hp3⟩, ⟨Hd0, Hd1, Hd3⟩, Hown, Hat, H6, HZ⟩
  ihave Hs := (waitSt_elim m ρ c 2 0) $$ Hs
  icases Hs with ⟨HO, Hp2, Hd2⟩
  imod (close_bar m ρ K c) $$ [Hat] with Hzb
  · isplitr; · iexact He
    iexact Hat
  unfold done
  imod (close_dma m ρ K c 0) $$ [Hd0] with Hz0
  · isplitr; · iexact He
    iexact Hd0
  imod (close_dma m ρ K c 1) $$ [Hd1] with Hz1
  · isplitr; · iexact He
    iexact Hd1
  imod (close_dma m ρ K c 2) $$ [Hd2] with Hz2
  · isplitr; · iexact He
    iexact Hd2
  imod (close_dma m ρ K c 3) $$ [Hd3] with Hz3
  · isplitr; · iexact He
    iexact Hd3
  rw [wp_ret]; imodintro
  iapply HZ
  unfold bodyOut
  ihave Hout := (out_whole m ρ c S hS) $$ Hout
  isplitl [HO]; · iexact HO
  isplitl [H6]; · iexact H6
  isplitl [Hout]; · iexact Hout
  isplitl [Hp0 Hown]
  · unfold partSome
    iexists (partialV m ρ c)
    iapply (Entails.of_eq (part_cut m ρ c).symm)
    isplitl [Hown]; · iexact Hown
    unfold paid dmaPay; iexact Hp0
  isplitl [Hp2 Hrest]
  · unfold srcSome
    iexists (agV m ρ c)
    iapply (Transfers.pointsTo_toks_join fullShare 15)
    isplitl [Hrest]; · unfold srcRest; iexact Hrest
    unfold dmaPay srcPts; iexact Hp2
  isplitl [Hp1]
  · unfold rsSome
    iexists (rsFinal m ρ c)
    iapply (Entails.of_eq (rs_cut c (rsFinal m ρ c)).symm)
    unfold paid dmaPay; iexact Hp1
  isplitl [Hp3]
  · unfold agSome
    iexists (agFinal m ρ c)
    iapply (Entails.of_eq (ag_cut c (agFinal m ρ c)).symm)
    unfold paid dmaPay; iexact Hp3
  unfold zeroed
  iframe

end Cert.KernelIdealProof

end
-- ==== Proof.Body.lean ====
/-
The run of the body on one device, at any device.
-/
module

public import proofs.«01_k».proof.Proof.Local

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kid → ℕ)

theorem rs_wait_credit (o inb) : (rsSl o inb).view.dmaCredit = N := rfl
theorem ag_wait_credit (o inb) : (agSl o inb).view.dmaCredit = N := rfl
theorem part_wait_credit (o inb) : (partSl o inb).view.dmaCredit = N := rfl
theorem src_wait_credit : (srcM : Memref sig .tc .vmem S32x512 .bf16).view.dmaCredit = N := rfl

attribute [local irreducible] N

/-- A partner's rows, right after the load of the slot they came in. -/
theorem step_partnerstore (c : Dev nD) {S : Finset (Dev nD)} {O : CellTallies nD τ sig Unit} {n : ℕ} (hn : n < 15) {o : Fin 2 → ℕ}
    (ho : o = ![32 * (src c ⟨n, hn⟩).val, 0]) {inb} {w : Vec F S32x512 .f32} (hw : w = k0_pay5 (agSlotOf m ρ (src c ⟨n, hn⟩)))
    {hx : ((outM : Memref sig .tc .vmem S512x512 .f32).access (rowsR o inb)).Stores Finset.univ}
    {hm : (Finset.univ : Finset (rowsR o inb).shape.Idx) = Finset.univ ∨ ∀ a, (rowsR o inb).stride a = 1}
    {α : Type} {k : PUnit → Prog (TpuEff nD τ sig (Elt F) Λ₀ .tc) α} {Q : α → sProp 𝕄} {R : sProp 𝕄}
    (h : iprop(env m ρ K ∗ waitSt m ρ c 3 O (n + 1) ∗ outPts m ρ c (insert (src c ⟨n, hn⟩) S) ∗ R) ⊢ wpB c (k ⟨⟩) Q) :
    iprop(env m ρ K ∗ waitSt m ρ c 3 O (n + 1) ∗ outPts m ρ c S ∗ R) ⊢ wpB c (.op (.store outM (rowsR o inb) w Finset.univ hx hm) k) Q :=
  step_outstore m ρ c (src c ⟨n, hn⟩) ho (hw.trans (rowsV_other m ρ c ⟨n, hn⟩).symm) h

theorem dev_eq {a b : Dev nD} (h : a.val = b.val) : a = b := Fin.ext h

/-- The own rows, then the partners' by turns: all rows. -/
theorem all_rows (c : Dev nD) : insert (src c 14) (insert (src c 13) (insert (src c 12) (insert (src c 11) (insert (src c 10) (insert (src c 9) (insert (src c 8)
    (insert (src c 7) (insert (src c 6) (insert (src c 5) (insert (src c 4) (insert (src c 3) (insert (src c 2) (insert (src c 1) (insert (src c 0) (insert c (∅ : Finset (Dev nD))))))))))))))))) = Finset.univ := by
  revert c; decide

set_option maxHeartbeats 2000000 in
theorem body_run (c : Dev nD) (Kt : PUnit → sProp 𝕄) :
    iprop(env m ρ K ∗ bodyIn m ρ c ∗ (bodyOut m ρ c -∗ Kt ⟨⟩)) ⊢ wpB c (cc0_body (F := F) xM (Memref.isWhole_whole _) wrM (Memref.isWhole_whole _) riM (Memref.isWhole_whole _)
      ewM (Memref.isWhole_whole _) outM (Memref.isWhole_whole _) partM (Memref.isWhole_whole _) srcM (Memref.isWhole_whole _) rsM (Memref.isWhole_whole _)
      agM (Memref.isWhole_whole _) cc0_scratch4 cc0_scratch5 cc0_scratch6 cc0_scratch7) Kt := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel
  simp only [semSignalWord, semWaitWord, Prog.lift, Prog.bind_op, Prog.bind_ret, Prog.pure_eq_ret, wp_deviceId]
  refine (turn_signals m ρ K c _).trans ?_
  iterate 15
    refine step_signal m ρ K c (by decide) (dev_eq (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq]; rfl)) rfl ?_
  refine (turn_partial m ρ K c _).trans ?_
  refine step_x m ρ c ?_
  refine step_ri m ρ c ?_
  refine step_expert m ρ c 0 rfl ?_
  refine step_ri m ρ c ?_
  refine step_expert m ρ c 1 rfl ?_
  refine step_partload c fun _ => ?_
  refine step_partstore m ρ c (by unfold partialV; rfl) ?_
  refine (turn_barrier m ρ K c _).trans ?_
  refine step_barrier m ρ K c rfl ?_
  refine (turn_rs m ρ K c _).trans ?_
  iterate 15
    refine step_rs m ρ K c (by decide) (dev_eq (by simp only [k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq]; rfl)) (off1_peer c _) rfl rfl rfl ?_
  refine (turn_rswait m ρ K c _).trans ?_
  refine step_ownload m ρ c (k0_off2_eq c) ?_
  iterate 15
    refine step_wait m ρ K c 1 (by decide) 2 (by decide) (above_ag 2 (by decide) c 0) rfl (rs_wait_credit _ _) ?_
    refine step_rsload m ρ K c (by decide) rfl ?_
  refine (turn_src m ρ K c _).trans ?_
  refine step_srcload c fun _ => ?_
  refine step_srcstore m ρ c (by unfold agV; rfl) ?_
  refine (turn_ag m ρ K c _).trans ?_
  iterate 15
    refine step_ag m ρ K c (by decide) (dev_eq (by simp only [k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq]; rfl)) rfl rfl rfl ?_
  refine (turn_out m ρ K c _).trans ?_
  refine step_outload m ρ c fun _ => ?_
  refine step_outstore m ρ c c (k0_off3_eq c) (by rw [rowsV_self]; rfl) ?_
  iterate 15
    refine step_wait m ρ K c 3 (by decide) 3 (by decide) (above_zero 3) rfl (ag_wait_credit _ _) ?_
    refine step_agload m ρ K c (by decide) rfl ?_
    refine step_outload m ρ c fun _ => ?_
    refine step_partnerstore m ρ K c (by decide) (off4_src c _) rfl ?_
  refine (turn_rssent m ρ K c _ _).trans ?_
  iterate 15
    refine step_wait m ρ K c 0 (by decide) 3 (by decide) (above_zero 3) rfl (part_wait_credit _ _) ?_
  refine (turn_agsent m ρ K c _ _).trans ?_
  iterate 15
    refine step_wait m ρ K c 2 (by decide) 3 (by decide) (above_zero 3) rfl src_wait_credit ?_
  exact turn_end m ρ K c _ (all_rows c) _

end Cert.KernelIdealProof

end
-- ==== Proof.Launch.lean ====
/-
The launch: the cells opened, the tokens and the credit dealt to the devices that use them, and the run of @main.
-/
module

public import proofs.«01_k».proof.Proof.Body
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Families over the cells of a device -/

omit [FloatOps F] in
theorem four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The barrier, and the transfer semaphores. -/
theorem kid_split (Φ : Kid → sProp 𝕄) : bigSep Finset.univ Φ = iprop(Φ none ∗ bigSep Finset.univ fun je => Φ (some je)) := by
  have he : (Finset.univ : Finset Kid).erase none = Finset.univ.map Function.Embedding.some := by
    refine Finset.ext fun k => ?_
    rcases k with _ | je <;> simp
  rw [bigSep_univ_at Φ none, he, bigSep_map]
  rfl

omit [FloatOps F] in
theorem kid_arrays (Φ : Kid → sProp 𝕄) : bigSep Finset.univ Φ
    = iprop(Φ none ∗ (bigSep Finset.univ fun e => Φ (some (0, e))) ∗ (bigSep Finset.univ fun e => Φ (some (1, e)))
      ∗ (bigSep Finset.univ fun e => Φ (some (2, e))) ∗ bigSep Finset.univ fun e => Φ (some (3, e))) := by
  rw [kid_split, bigSep_univ_prod, four]

/-! ## The launch element -/

/-- The kernel's own semaphores: the four arrays. -/
abbrev osem : Fin 4 × Fin 15 → SemLoc sig := fun je => .dma (dq je.1 je.2)

theorem ownSemFacts : Pipeline.OwnSemFacts cfg0.spec osem where
  isScoped := by decide
  inj a b h := by
    have h' : kidOf (csem (some a)) = kidOf (csem (some b)) := congrArg kidOf h
    rw [kidOf_csem, kidOf_csem] at h'
    exact Option.some.inj (Option.some.inj h')
  disj := by decide

def allCells : Finset (GSem nD τ sig) := Finset.univ.map ⟨kcell, kcell_injective⟩

/-- The tokens of one device's own cells, as minted: a barrier's fifteen, and one for each transfer cell. -/
abbrev tokOf (ck : Dev nD × Option (Fin 4) × Fin 15) : GSem nD τ sig × ℕ × Fin 15 := match ck.2.1 with
  | none => (bcell ck.1, 0, ck.2.2)
  | some j => (dcell ck.1 j ck.2.2, 0, 0)

theorem tokOf_injective : Function.Injective (tokOf : Dev nD × Option (Fin 4) × Fin 15 → GSem nD τ sig × ℕ × Fin 15) := by
  rintro ⟨c, _ | j, e⟩ ⟨c', _ | j', e'⟩ h
  · have h1 : c = c' := congrArg (fun x : GSem nD τ sig × ℕ × Fin 15 => x.1.1.1) h
    have h2 : e = e' := congrArg (fun x : GSem nD τ sig × ℕ × Fin 15 => x.2.2) h
    rw [h1, h2]
  · exact absurd (congrArg (fun x : GSem nD τ sig × ℕ × Fin 15 => x.1.2) h) (fun h' => by cases h')
  · exact absurd (congrArg (fun x : GSem nD τ sig × ℕ × Fin 15 => x.1.2) h) (fun h' => by cases h')
  · have h1 : (c, (some (j, e) : Kid)) = (c', some (j', e')) := kcell_injective (congrArg Prod.fst h)
    obtain ⟨rfl, h2⟩ := Prod.mk.inj h1
    obtain ⟨rfl, rfl⟩ := Prod.mk.inj (Option.some.inj h2)
    rfl

def allToks : Finset (GSem nD τ sig × ℕ × Fin 15) := Finset.univ.map ⟨tokOf, tokOf_injective⟩

def u₀ : UU :=
  (initOf (Pipeline.cells cfgs cellOf_inj) (Pipeline.launchToks cfgs cellOf_inj), initOf allCells allToks)

/-- The tokens of device `c`'s own cells. -/
def ownToks (c : Dev nD) : sProp 𝕄 :=
  iprop((bigSep Finset.univ fun d => dutyTok ER (bcell c) 0 d) ∗ toks c 0 ∗ toks c 1 ∗ toks c 2 ∗ toks c 3)

/-- What the launch deals device `c`. -/
def G (c : Dev nD) : sProp 𝕄 :=
  iprop((bigSep Finset.univ fun k : Kid => roundState ER (Rd m ρ) (kcell (c, k)) 0)
    ∗ (bigSep Finset.univ fun k : Kid => iprop(atPos ER (kcell (c, k)) 0 ∅ 0 ∗ reached ER (kcell (c, k)) 0)) ∗ ownToks c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Kid => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    rw [bigSep_univ_prod, bigSep_univ_eq_bigSepL [none, some 0, some 1, some 2, some 3] (by decide) (by decide)]
    rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun je : Fin 4 × Fin 15 => semVal (dcell c je.1 je.2) 0 := rfl
omit [FloatOps F] in
theorem ownSems0_arrays (c : Dev nD) : (Pipeline.ownSems0 (Ix := Unit) (Name := ℕ) (U := UU) (Lvl := ℕ) (Val := Elt F) (τ := τ) osem c : sProp 𝕄)
    = iprop(zeroed c 0 ∗ zeroed c 1 ∗ zeroed c 2 ∗ zeroed c 3) := by
  rw [ownSems0_eq, bigSep_univ_prod, four]; rfl
omit [FloatOps F] in
theorem unscopedSems0_eq (c : Dev nD) : (unscopedSems0 c : sProp 𝕄) = semVal (bcell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  imod (show iprop((bigSep Finset.univ fun k : Kid => semVal (kcell (c, k)) 0) ∗ bigSep Finset.univ fun k : Kid => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hos Hus Hst] with Hinv
  · isplitr [Hst]
    · iapply (Entails.of_eq (kid_split (fun k => (semVal (kcell (c, k)) 0 : sProp 𝕄))).symm)
      isplitl [Hus]
      · iapply (Entails.of_eq (unscopedSems0_eq (F := F) c)); iexact Hus
      · iapply (Entails.of_eq (ownSems0_eq (F := F) c)); iexact Hos
    iexact Hst
  imodintro
  isplitl [Hinv]; · iexact Hinv
  isplitl [Hat]; · iexact Hat
  iexact Htok

def records (K : Dev nD × Kid → ℕ) : sProp 𝕄 :=
  iprop((bigSep Finset.univ fun ck : Dev nD × Kid => cellInv ER (Rd m ρ) (K ck) (kcell ck))
    ∗ bigSep Finset.univ fun ck : Dev nD × Kid => reached ER (kcell ck) 0)

instance records_persistent (K : Dev nD × Kid → ℕ) : BI.Persistent (records m ρ K) := by unfold records; infer_instance

/-- What only device `c` holds: its positions, and the tokens of the duties it pays. -/
def payToks (c : Dev nD) : sProp 𝕄 := iprop(barToks c ∗ (toks c 0 ∗ toksTo c 1) ∗ (toks c 2 ∗ toksTo c 3))
def linear (c : Dev nD) : sProp 𝕄 :=
  iprop((atPos ER (bcell c) 0 ∅ 0 ∗ opened c 0 ∗ opened c 1 ∗ opened c 2 ∗ opened c 3) ∗ payToks c)

/-- What the opening makes of it. -/
def G' (c : Dev nD) : sProp 𝕄 := iprop(∃ K, records m ρ K ∗ linear c)

/-- Who pays a duty: duty `d` of `c`'s barrier, and slot `e` of a receive array. -/
def barDeal : Dev nD × Fin 15 ≃ Dev nD × Fin 15 where
  toFun x := (peer x.1 x.2, rev x.2)
  invFun x := (peer x.1 x.2, rev x.2)
  left_inv x := by simp only [peer_peer, rev_rev]
  right_inv x := by simp only [peer_peer, rev_rev]
def cpDeal : Dev nD × Fin 15 ≃ Dev nD × Fin 15 where
  toFun x := (peer x.1 x.2, x.2)
  invFun x := (src x.1 x.2, x.2)
  left_inv x := by simp only [src_peer]
  right_inv x := by simp only [peer_src]

omit [FloatOps F] in
theorem deal_bar : (bigSep Finset.univ fun c : Dev nD => bigSep Finset.univ fun d => (dutyTok ER (bcell c) 0 d : sProp 𝕄))
    = bigSep Finset.univ fun c : Dev nD => barToks c := by
  unfold barToks
  rw [← bigSep_univ_prod (fun x : Dev nD × Fin 15 => (dutyTok ER (bcell x.1) 0 x.2 : sProp 𝕄)), bigSep_univ_equiv barDeal, bigSep_univ_prod]
  rfl
omit [FloatOps F] in
theorem deal_cp (j : Fin 4) : (bigSep Finset.univ fun c : Dev nD => (toks c j : sProp 𝕄)) = bigSep Finset.univ fun c : Dev nD => toksTo c j := by
  unfold toks toksTo
  rw [← bigSep_univ_prod (fun x : Dev nD × Fin 15 => (dutyTok ER (dcell x.1 j x.2) 0 0 : sProp 𝕄)), bigSep_univ_equiv cpDeal, bigSep_univ_prod]
  rfl

omit [FloatOps F] in
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', bigSep_sep', bigSep_sep', deal_bar, deal_cp 1, deal_cp 3]
  iintro ⟨H1, H2, H3, H4, H5⟩
  iframe

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Kid => iprop(∃ κ : ℕ, cellInv ER (Rd m ρ) κ (kcell ck))),
    bigSep_congr (s := Finset.univ) (fun (c : Dev nD) _ => bigSep_sep' Finset.univ (fun k : Kid => (atPos ER (kcell (c, k)) 0 ∅ 0 : sProp 𝕄)) (fun k => reached ER (kcell (c, k)) 0)),
    bigSep_sep', ← bigSep_univ_prod (fun ck : Dev nD × Kid => (reached ER (kcell ck) 0 : sProp 𝕄))]
  iintro ⟨HI, ⟨Hat, #HR⟩, Htok⟩
  ihave HK := (BI.bigSep_exists_pi Finset.univ (fun (ck : Dev nD × Kid) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => show iprop(records m ρ K ∗ linear c) ⊢ G' m ρ c from by
    unfold G'; iintro H; iexists K; iexact H)
  isplitr
  · unfold records; isplitl; · iexact HI
    iexact HR
  · iapply ((Entails.of_eq (bigSep_sep' Finset.univ (fun c : Dev nD => bigSep Finset.univ fun k : Kid => (atPos ER (kcell (c, k)) 0 ∅ 0 : sProp 𝕄)) payToks).symm).trans
      (bigSep_mono fun c _ => show _ ⊢ linear c from Entails.of_eq (by unfold linear opened; rw [kid_arrays])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
theorem launch_cp (j : Fin 4) (c : Dev nD) : (Pipeline.launchCred (fun d => Ocp j d 0) c : sProp 𝕄) ⊢ creds c j := by
  unfold Ocp creds
  rw [Pipeline.launchCred_sum, SparseCore.ProtocolKit.bigSep_finFrom_zero]
  exact bigSep_mono fun e _ => Pipeline.launchCred_tallyAt (.dma (dq j e)) (fun d => peer d e) (fun d => src d e) (fun d => peer_src d e) (fun d => src_peer d e) () N c

omit [FloatOps F] in
theorem tally_fifteen (g : GSem nD τ sig) : (∑ _e : Fin 15, tallyAt g () 1 : CellTallies nD τ sig Unit) = tallyAt g () 15 := by
  funext g'
  refine Finsupp.ext fun u => ?_
  rw [Finset.sum_apply, Finsupp.finsetSum_apply, Finset.sum_congr rfl fun e _ => tallyAt_apply .., tallyAt_apply, Finset.sum_const, Finset.card_univ, Fintype.card_fin]
  split <;> rfl

omit [FloatOps F] in
theorem launch_bar (c : Dev nD) : (Pipeline.launchCred (fun d => Obar d 0) c : sProp 𝕄) ⊢ cred (tallyAt (bcell c) () 15) := by
  unfold Obar
  rw [Pipeline.launchCred_sum, SparseCore.ProtocolKit.bigSep_finFrom_zero, ← tally_fifteen, Pipeline.cred_finsetSum]
  exact bigSep_mono fun e _ => Pipeline.launchCred_tallyAt (.reg barS) (fun d => peer d e) (fun d => src d e) (fun d => peer_src d e) (fun d => src_peer d e) () 1 c

omit [FloatOps F] in
theorem launch_creds (c : Dev nD) :
    (Pipeline.launchCred O₀ c : sProp 𝕄) ⊢ iprop((creds c 3 ∗ creds c 1) ∗ cred (tallyAt (bcell c) () 15)) := by
  rw [show (O₀ : Dev nD → CellTallies nD τ sig Unit) = fun d => (fun d => Ocp 3 d 0 + Ocp 1 d 0) d + Obar d 0 from rfl,
    Pipeline.launchCred_add, Pipeline.launchCred_add]
  exact BI.sep_mono (BI.sep_mono (launch_cp 3 c) (launch_cp 1 c)) (launch_bar c)

/-! ## The pipeline's data and the body -/

/-- What the body of device `c` starts from. -/
def start (c : Dev nD) : sProp 𝕄 := iprop((∃ K, env m ρ K ∗ linear c) ∗ (creds c 3 ∗ creds c 1) ∗ cred (tallyAt (bcell c) () 15))

def scratch (c : Dev nD) : sProp 𝕄 := iprop(partSome c ∗ srcSome c ∗ rsSome c ∗ agSome c)
def Φ₀ (c : Dev nD) : sProp 𝕄 := iprop(start m ρ c ∗ scratch c)
def Φ₁ (c : Dev nD) : sProp 𝕄 := iprop(scratch c ∗ semVal (bcell c) 0 ∗ zeroed c 0 ∗ zeroed c 1 ∗ zeroed c 2 ∗ zeroed c 3)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wrstg m ρ c
    | ⟨2, _⟩ => ristg m ρ c
    | ⟨3, _⟩ => ewstg m ρ c
    | ⟨4, _⟩ => outFinal m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (xstg m ρ c) ∗ stg c cc0_stg1_0 (wrstg m ρ c) ∗ stg c cc0_stg2_0 (ristg m ρ c)
    ∗ stg c cc0_stg3_0 (ewstg m ρ c) ∗ stg c cc0_stg4_0 (outFinal m ρ c))

theorem before_0 (c : Dev nD) (d) : (dats m ρ 0 c).before (0 : Fin 5) t0_0 d = xstg m ρ c := by
  unfold Dat.before; rw [if_pos (fetch0_0 t0_0)]; rfl
theorem before_1 (c : Dev nD) (d) : (dats m ρ 0 c).before (1 : Fin 5) t0_0 d = wrstg m ρ c := by
  unfold Dat.before; rw [if_pos (fetch0_1 t0_0)]; rfl
theorem before_2 (c : Dev nD) (d) : (dats m ρ 0 c).before (2 : Fin 5) t0_0 d = ristg m ρ c := by
  unfold Dat.before; rw [if_pos (fetch0_2 t0_0)]; rfl
theorem before_3 (c : Dev nD) (d) : (dats m ρ 0 c).before (3 : Fin 5) t0_0 d = ewstg m ρ c := by
  unfold Dat.before; rw [if_pos (fetch0_3 t0_0)]; rfl

theorem pre_in (c : Dev nD) : bodyPre m ρ c ⊢ iprop(∃ K, env m ρ K ∗ bodyIn m ρ c) := by
  unfold bodyPre Φ₀ start linear payToks scratch
  simp only [before_0, before_1, before_2, before_3]
  iintro ⟨⟨⟨⟨%K, He, ⟨Hat, Ho0, Ho1, Ho2, Ho3⟩, Hb, Ht1, Ht2⟩, ⟨Hc3, Hc1⟩, Hcb⟩, Hps, Hss, Hrs, Has⟩, Ho, ⟨%d0, %g0, %h0, H0⟩, ⟨%d1, %g1, %h1, H1⟩, ⟨%d2, %g2, %h2, H2⟩,
    ⟨%d3, %g3, %h3, H3⟩, ⟨%d4, %g4, %h4, H4⟩⟩
  subst h0 h1 h2 h3
  unfold Dat.owesAt Pipeline.owesWithin
  icases Ho with ⟨%W, %hW, HO⟩
  iexists K
  isplitl [He]; · iexact He
  unfold bodyIn
  isplitl [HO]; · unfold owing; iexists W; iexact HO
  isplitl [Hb]; · iexact Hb
  isplitl [Hrs]; · iexact Hrs
  isplitl [Has]; · iexact Has
  isplitl [Hcb Hat]
  · unfold barIn; isplitl [Hcb] <;> iassumption
  isplitl [Ht1]; · iexact Ht1
  isplitl [Ht2]; · iexact Ht2
  isplitl [Hc1 Hc3]
  · isplitl [Hc1] <;> iassumption
  isplitl [Ho0 Ho1 Ho2 Ho3]
  · iframe
  isplitl [H0 H1 H2 H3]
  · unfold stages; iframe
  isplitl [H4]
  · unfold outSome; iexists g4; iexact H4
  isplitl [Hps] <;> iassumption

theorem out_post (c : Dev nD) : bodyOut m ρ c ⊢ bodyPost m ρ c := by
  unfold bodyOut bodyPost Φ₁ scratch stages owing Dat.owesAt Pipeline.owesWithin
  rw [show (dats m ρ 0 c).owed t0_0.succ = 0 from rfl]
  iintro ⟨⟨%W, HO⟩, ⟨H0, H1, H2, H3⟩, H4, Hps, Hss, Hrs, Has, Hzb, Hz⟩
  isplitl [Hps Hss Hrs Has Hzb Hz]
  · iframe
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_whole_eq]
  show bodyPre m ρ c ⊢ wpB c (cc0_body (F := F) xM (Memref.isWhole_whole _) wrM (Memref.isWhole_whole _) riM (Memref.isWhole_whole _)
      ewM (Memref.isWhole_whole _) outM (Memref.isWhole_whole _) partM (Memref.isWhole_whole _) srcM (Memref.isWhole_whole _) rsM (Memref.isWhole_whole _)
      agM (Memref.isWhole_whole _) cc0_scratch4 cc0_scratch5 cc0_scratch6 cc0_scratch7) (fun _ => bodyPost m ρ c)
  refine (pre_in m ρ c).trans ?_
  iintro ⟨%K, He, Hin⟩
  iapply (body_run m ρ K c (fun _ => bodyPost m ρ c))
  isplitl [He]; · iexact He
  isplitl [Hin]; · iexact Hin
  iintro H
  iapply (out_post m ρ c); iexact H

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G' records env
  icases HG with ⟨%K, ⟨HI, HR⟩, Hl⟩
  isplitl
  · isplitr [Hc]
    · iexists K; iframe
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch partSome srcSome rsSome agSome
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_arrays, unscopedSems0_eq]
  unfold Φ₁ scratch partSome srcSome rsSome agSome
  iintro ⟨Hr, Hzb, Hz⟩
  isplitl [Hzb]; · iexact Hzb
  isplitl [Hz] <;> iassumption

/-- The staging semaphores lie below everything that is owed. -/
theorem stage_lv : ∀ (w : Fin 5) (s : Fin (spec0 w).nbuf), kidLv (kidOf (.dma ((spec0 w).sem s))) ≤ 0 := by decide

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (stage_lv w s) (by
      rcases t with ⟨_ | _, ht⟩
      · exact above_add (above_add (above_ag 0 (by decide) c 0) (above_rs 0 (by decide) c 0)) (above_bar c 0)
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Sixteen devices, any float values, any memory with zero counters: every weakly fair execution of @main ends, each array holding
what was computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.Result.lean ====
/-
What the run leaves: each window is its whole array, so the arguments keep their contents and the result array holds `outFinal`.
From it, the two frames of the kernel.
-/
module

public import proofs.«01_k».proof.Proof.Launch
public import proofs.«01_k».proof.Defs
public import proofs.«01_k».proof.Proof.Gen.Kernel.Frame

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The windows are the whole arrays -/

theorem read_x (f : (main_arg0 : Ref sig .tc).ty.Contents (Elt F)) : (win0_0.blk (0 : Fin 1)).view.read (Elt F) f = f := by
  funext i; refine congrArg f (funext fun a => Fin.ext ?_)
  match a with
  | ⟨0, _⟩ => exact (Nat.zero_add _).trans (Nat.one_mul _)
  | ⟨1, _⟩ => exact (Nat.zero_add _).trans (Nat.one_mul _)

theorem read_ri (f : (main_arg2 : Ref sig .tc).ty.Contents (Elt F)) : (win0_2.blk (0 : Fin 1)).view.read (Elt F) f = f := by
  funext i; refine congrArg f (funext fun a => Fin.ext ?_)
  match a with
  | ⟨0, _⟩ => exact (Nat.zero_add _).trans (Nat.one_mul _)
  | ⟨1, _⟩ => exact (Nat.zero_add _).trans (Nat.one_mul _)

theorem read_ew (f : (main_arg3 : Ref sig .tc).ty.Contents (Elt F)) : (win0_3.blk (0 : Fin 1)).view.read (Elt F) f = f := by
  funext i; refine congrArg f (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem emb_out (t : Fin cfg0.N) (i : S512x512.Idx) : ((cfg0.win 4).blk t).view.emb i = i := by
  obtain rfl := fin_N0 t
  refine funext fun a => Fin.ext ?_
  match a with
  | ⟨0, _⟩ => exact (Nat.zero_add _).trans (Nat.one_mul _)
  | ⟨1, _⟩ => exact (Nat.zero_add _).trans (Nat.one_mul _)

theorem xstg_eq (c : Dev nD) : xstg m ρ c = m ((c : Thread nD τ).loc main_arg0) := read_x _
theorem ristg_eq (c : Dev nD) : ristg m ρ c = m ((c : Thread nD τ).loc main_arg2) := read_ri _
theorem ewstg_eq (c : Dev nD) : ewstg m ρ c = m ((c : Thread nD τ).loc main_arg3) := read_ew _

/-! ## The arrays at the end -/

theorem flushed_out (c : Dev nD) (t : Fin cfg0.N) :
    (dats m ρ 0 c).flushed 4 t = ((cfg0.win 4).blk t).view.read (Elt F) (outFinal m ρ c) := by
  have h : ((cfg0.win 4).blk t).view.read (Elt F) (outFinal m ρ c) = outFinal m ρ c :=
    funext fun i => congrArg (outFinal m ρ c) (emb_out t i)
  rw [h]
  obtain rfl := fin_N0 t
  rfl

theorem cover_out (i : S512x512.Idx) : ∃ t : Fin cfg0.N, (cfg0.win 4).flush t = true ∧ i ∈ ((cfg0.win 4).blk t).view.set :=
  ⟨t0_0, flush0_4 _, by
    have h := ((cfg0.win 4).blk t0_0).view.emb_mem_set i
    rwa [emb_out] at h⟩

theorem finalA_out (c : Dev nD) : finalA m ρ c (4 : Fin 5) = outFinal m ρ c :=
  (dats m ρ 0 c).arrAt_eq_of_cover 4 (outFinal m ρ c) (fun t _ => flushed_out m ρ c t) cover_out

/-- The run, in terms of the arrays of @main. -/
theorem run_arrays : θ_run defs (onTc (τ := τ) (main (F := F))) ⟨m, fun _ => 0, ρ⟩ (fun r =>
    (∀ c : Dev nD, r.2.mem ((c : Thread nD τ).loc main_v1) = outFinal m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c =>
    ⟨(h.1 c (4 : Fin 5)).trans (finalA_out m ρ c),
     (h.1 c (0 : Fin 5)).trans ((dats m ρ 0 c).arrAt_in (0 : Fin 5) rfl _),
     (h.1 c (1 : Fin 5)).trans ((dats m ρ 0 c).arrAt_in (1 : Fin 5) rfl _),
     (h.1 c (2 : Fin 5)).trans ((dats m ρ 0 c).arrAt_in (2 : Fin 5) rfl _),
     (h.1 c (3 : Fin 5)).trans ((dats m ρ 0 c).arrAt_in (3 : Fin 5) rfl _)⟩, h.2⟩) (run_main m ρ)

/-! ## The frames -/

/-- The program as printed for the words and as printed for the reals have the same text. -/
theorem defs₀_same : Cert.Kernel.defs₀ (F := F) = defs₀ (F := F) := by
  refine congrArg Defs.onTc ?_
  funext l p
  match l, p with
  | 0, (t, s) => rfl
theorem defs_same : Cert.Kernel.defs (F := F) = defs (F := F) := congrArg (Pipeline.defs pcfgs) defs₀_same

theorem frame_kernel : Cert.quiescent_Kernel := by
  intro m ρ _
  have h := run_arrays (F := Bits) m ρ
  rw [← defs_same] at h
  exact (θ_run Cert.Kernel.defs _ _).mono (fun _ h => ⟨fun c => (h.1 c).2, h.2⟩) h

theorem frame_kernelIdeal : Cert.quiescent_KernelIdeal := fun m ρ _ =>
  (θ_run Cert.KernelIdeal.defs _ _).mono (fun _ h => ⟨fun c => (h.1 c).2, h.2⟩) (run_arrays (F := Ideal) m ρ)

end Cert.KernelIdealProof

end
-- ==== Proof.Value.lean ====
/-
The kernel's result over the extended reals. Device `p` contributes to token `t` the products with its two experts, each zero unless the
token's index names that expert; the devices' contributions add up to the product with the one expert named.
-/
module

public import Idealize.ShloMosaic.Lib.Pointwise
public import Idealize.ShloMosaic.Lib.StableHlo.Predicate
public import proofs.«01_k».proof.Proof.Result

@[expose] public section

set_option maxRecDepth 16384

noncomputable section

namespace Cert.KernelIdealProof

open Cert.KernelIdeal Cert.KernelIdeal.Gen
open Idealize.ShloMosaic
open Idealize.ShloMosaic.TcCoe
open Idealize.SL.Sem

/-! ## The arithmetic of one device -/

theorem pay5_apply (v : Vec Ideal S1x32x512 .bf16) (r : Fin 32) (o : Fin 512) : k0_pay5 v (ix2 r o) = v (ix3 0 r o) := by
  pointwise [k0_pay5]

/-- A choice by a comparison of words is a choice by their equality. -/
theorem select_eq_word {α : Type} (a b : BitVec 32) (x y : α) :
    Scalar.select (IntOp.cmpi .eq a b) x y = if a = b then x else y := by
  by_cases h : a = b
  · rw [if_pos h, StableHlo.Predicate.cmpi_eq_iff.mpr h]; rfl
  · rw [if_neg h]; exact if_neg fun e => h (StableHlo.Predicate.cmpi_eq_iff.mp e)

/-- Token `t` times one expert's matrix, or zero. -/
def term (X : FVec Ideal S512x256 .bf16) (W : Fin 256 → Fin 512 → EReal) (P : Prop) [Decidable P] (t o : Fin 512) : EReal :=
  if P then ∑ k : Fin 256, X (ix2 t k) * W k o else 0

theorem sum_select (X : FVec Ideal S512x256 .bf16) (W : Fin 256 → Fin 512 → EReal) (a b : BitVec 32) (t o : Fin 512) :
    (∑ k : Fin 256, Scalar.select (IntOp.cmpi .eq a b) (X (ix2 t k) * W k o) 0) = term X W (a = b) t o := by
  simp only [select_eq_word, term]
  by_cases h : a = b
  · simp only [if_pos h]
  · simp only [if_neg h]; exact Finset.sum_const_zero

set_option backward.proofsInPublic true in
/-- Row `r` of the rows device `b` owns. -/
def rowOf (b : Dev nD) (r : Fin 32) : Fin 512 := ⟨b.val * 32 + r.val, by have := b.isLt; have : b.val < 16 := b.isLt; omega⟩

theorem pay4_apply (w : BitVec 32) (X : Vec Ideal S512x256 .bf16) (R : Vec Ideal S512x1 .i32) (W0 W1 : Vec Ideal S1x256x512 .bf16)
    (b : Dev nD) (r : Fin 32) (o : Fin 512) :
    k0_pay4 w (k0_pay1 X) k0_pay2 (k0_pay3 w X R) W0 R W1 (ix3 (n0 := 16) b r o)
      = term X (fun k o => W0 (ix3 0 k o)) (R (ix2 (rowOf b r) 0) = Scalar.addi (Scalar.muli w 2#32) 0#32) (rowOf b r) o
        + term X (fun k o => W1 (ix3 0 k o)) (R (ix2 (rowOf b r) 0) = Scalar.addi (Scalar.muli w 2#32) 1#32) (rowOf b r) o := by
  rw [← sum_select, ← sum_select]
  pointwise [k0_pay4, k0_pay1, k0_pay2, k0_pay3]
  rfl

/-- The numbers of the two experts of device `c`. -/
theorem word_even (c : Dev nD) : Scalar.addi (Scalar.muli (meW c) 2#32) 0#32 = BitVec.ofNat 32 (2 * c.val) := by
  revert c; decide
theorem word_odd (c : Dev nD) : Scalar.addi (Scalar.muli (meW c) 2#32) 1#32 = BitVec.ofNat 32 (2 * c.val + 1) := by
  revert c; decide

/-! ## The sum over the devices -/

/-- The devices in the order in which device `c` adds their rows. -/
theorem sum_devices (f : Dev nD → EReal) (c : Dev nD) : f c + ∑ e : Fin 15, f (src c e) = ∑ p : Dev nD, f p := by
  show (f c + ∑ e : Fin 15, f (src c e) : EReal) = ∑ p : Fin 16, f p
  rw [← (Equiv.subLeft (c : Fin 16)).sum_comp, Fin.sum_univ_succ (n := 15) (fun i => f (Equiv.subLeft (c : Fin 16) i))]
  refine congrArg₂ (· + ·) (congrArg f ?_) (Finset.sum_congr rfl fun e _ => congrArg f ?_)
  · exact (sub_zero (c : Fin 16)).symm
  · refine Fin.ext ?_
    show (c.val + (15 - e.val)) % 16 = ((16 - (e.val + 1)) + c.val) % 16
    congr 1; omega

set_option backward.proofsInPublic true in
/-- The contributions of all experts to one token: the one named counts. -/
theorem sum_experts (g : Fin 32 → EReal) (r : BitVec 32) :
    (∑ p : Fin 16, ((if r = BitVec.ofNat 32 (2 * p.val) then g ⟨2 * p.val, by omega⟩ else 0)
      + (if r = BitVec.ofNat 32 (2 * p.val + 1) then g ⟨2 * p.val + 1, by omega⟩ else 0)))
      = if h : r.toNat < 32 then g ⟨r.toNat, h⟩ else 0 := by
  have key : ∀ n, n < 32 → (r = BitVec.ofNat 32 n ↔ r.toNat = n) := fun n hn => by
    rw [← BitVec.toNat_inj, BitVec.toNat_ofNat, Nat.mod_eq_of_lt (by omega)]
  have key' : ∀ p : Fin 16, ((if r = BitVec.ofNat 32 (2 * p.val) then g ⟨2 * p.val, by omega⟩ else 0)
      + (if r = BitVec.ofNat 32 (2 * p.val + 1) then g ⟨2 * p.val + 1, by omega⟩ else 0))
      = ((if r.toNat = 2 * p.val then g ⟨2 * p.val, by omega⟩ else 0)
        + (if r.toNat = 2 * p.val + 1 then g ⟨2 * p.val + 1, by omega⟩ else 0)) := fun p => by
    simp only [key (2 * p.val) (by omega), key (2 * p.val + 1) (by omega)]
  rw [Finset.sum_congr rfl fun p _ => key' p]
  by_cases h : r.toNat < 32
  · rw [dif_pos h, Finset.sum_eq_single (⟨r.toNat / 2, by omega⟩ : Fin 16)]
    · by_cases he : r.toNat = 2 * (r.toNat / 2)
      · rw [if_pos he, if_neg (by show ¬ r.toNat = 2 * (r.toNat / 2) + 1; omega), add_zero]
        exact congrArg g (Fin.ext he.symm)
      · have ho : r.toNat = 2 * (r.toNat / 2) + 1 := by omega
        rw [if_neg he, if_pos ho, zero_add]
        exact congrArg g (Fin.ext ho.symm)
    · intro p _ hp
      have hp' : p.val ≠ r.toNat / 2 := fun e => hp (Fin.ext e)
      rw [if_neg (by omega), if_neg (by omega), add_zero]
    · intro hn; exact absurd (Finset.mem_univ _) hn
  · rw [dif_neg h]
    refine Finset.sum_eq_zero fun p _ => ?_
    rw [if_neg (by omega), if_neg (by omega), add_zero]

/-! ## The result array -/

section Result

variable (m : (ℓ : Loc nD τ sig) → Buf (Elt Ideal) ℓ) (ρ : Dev nD → PrngReg)
variable (X : FVec Ideal S512x256 .bf16) (R : IVec S512x1 32) (W : (⟨3, ![32, 256, 512]⟩ : Shape).Idx → EReal)
variable (hX : ∀ c : Dev nD, m ((c : Thread nD τ).loc main_arg0) = X) (hR : ∀ c : Dev nD, m ((c : Thread nD τ).loc main_arg2) = R)
variable (hW : ∀ c : Dev nD, m ((c : Thread nD τ).loc main_arg3) = Layout.block ⟨3, ![2, 256, 512]⟩ ⟨3, ![32, 256, 512]⟩ 0 16 c W)

set_option backward.proofsInPublic true in
/-- Expert `k` of device `c`, among all. -/
def expertOf (c : Dev nD) (k : Fin 2) : Fin 32 := ⟨2 * c.val + k.val, by have : c.val < 16 := c.isLt; omega⟩

include hW in
theorem expertV_apply (c : Dev nD) (k : Fin 2) (i : Fin 256) (o : Fin 512) :
    expertV m ρ c k (ix3 0 i o) = W (ix3 (expertOf c k) i o) := by
  show ewstg m ρ c (ValueIdx.ix3 k i o) = _
  rw [ewstg_eq, hW, ← ix3_eq_valueIdx]
  refine congrArg W (funext fun a => Fin.ext ?_)
  match a with
  | ⟨0, _⟩ => exact congrArg (· + k.val) (Nat.mul_comm c.val 2)
  | ⟨1, _⟩ => rfl
  | ⟨2, _⟩ => rfl

include hX hR hW in
theorem partialV_apply (p b : Dev nD) (r : Fin 32) (o : Fin 512) :
    partialV m ρ p (ix3 (n0 := 16) b r o)
      = term X (fun k o => W (ix3 (expertOf p 0) k o)) (R (ix2 (rowOf b r) 0) = BitVec.ofNat 32 (2 * p.val)) (rowOf b r) o
        + term X (fun k o => W (ix3 (expertOf p 1) k o)) (R (ix2 (rowOf b r) 0) = BitVec.ofNat 32 (2 * p.val + 1)) (rowOf b r) o := by
  unfold partialV
  rw [pay4_apply, xstg_eq, ristg_eq, hX, hR, word_even, word_odd]
  simp only [expertV_apply m ρ W hW]

theorem chunkOf_apply (p c : Dev nD) (r : Fin 32) (o : Fin 512) :
    k0_pay5 (chunkOf m ρ p c) (ix2 r o) = partialV m ρ p (ix3 (n0 := 16) c r o) := by
  rw [pay5_apply, ix3_eq_valueIdx]; rfl

set_option backward.proofsInPublic true in
/-- The running sum after all fifteen slots is the sum of all devices' rows. -/
theorem accV_apply (c : Dev nD) (r : Fin 32) (o : Fin 512) :
    accV m ρ c 15 (ix2 r o) = ∑ p : Dev nD, partialV m ρ p (ix3 (n0 := 16) c r o) := by
  have h : ∀ n, accV m ρ c n (ix2 r o) = partialV m ρ c (ix3 (n0 := 16) c r o)
      + ∑ i ∈ Finset.range n, (if h : i < 15 then partialV m ρ (src c ⟨i, h⟩) (ix3 (n0 := 16) c r o) else partialV m ρ c (ix3 (n0 := 16) c r o)) := by
    intro n
    induction n with
    | zero => rw [Finset.sum_range_zero, add_zero]; exact chunkOf_apply m ρ c c r o
    | succ n ih =>
      rw [Finset.sum_range_succ, ← add_assoc, ← ih]
      refine congrArg (accV m ρ c n (ix2 r o) + ·) ?_
      by_cases hn : n < 15
      · rw [dif_pos hn, dif_pos hn]; exact chunkOf_apply m ρ _ c r o
      · rw [dif_neg hn, dif_neg hn]; exact chunkOf_apply m ρ c c r o
  rw [h 15, Finset.sum_range, ← sum_devices _ c]
  refine congrArg (_ + ·) (Finset.sum_congr rfl fun e _ => ?_)
  rw [dif_pos e.isLt]

theorem rowsV_apply (c e : Dev nD) (r : Fin 32) (o : Fin 512) : rowsV m ρ c e (ix2 r o) = accV m ρ e 15 (ix2 r o) := by
  unfold rowsV
  by_cases h : e = c
  · rw [if_pos h, h]
  · rw [if_neg h, pay5_apply]
    show agV m ρ e (ValueIdx.ix2 r o) = _
    rw [← ix2_eq_valueIdx]
    unfold agV
    pointwise []

set_option backward.proofsInPublic true in
include hX hR hW in
/-- Every device's result at an element. -/
theorem outFinal_apply (c : Dev nD) (t o : Fin 512) :
    outFinal m ρ c (ix2 t o) = if h : (R (ix2 t 0)).toNat < 32 then
      ∑ k : Fin 256, X (ix2 t k) * W (ix3 (⟨(R (ix2 t 0)).toNat, h⟩ : Fin 32) k o) else 0 := by
  have ht : rowOf (rowDev t) (rowIn t) = t := Fin.ext (by show t.val / 32 * 32 + t.val % 32 = t.val; omega)
  show rowsV m ρ c (rowDev t) (ValueIdx.ix2 (rowIn t) o) = _
  rw [← ix2_eq_valueIdx, rowsV_apply, accV_apply, ← sum_experts (fun e => ∑ k : Fin 256, X (ix2 t k) * W (ix3 e k o))]
  refine Finset.sum_congr rfl fun p _ => ?_
  rw [partialV_apply m ρ X R W hX hR hW, ht]
  rfl

end Result

end Cert.KernelIdealProof

end
-- ==== Proof.lean ====
/-
The proof of `Cert.Claim`. The kernel's run is proved once, over any float values (Proof/Launch.lean); both frames and the value claim
are read off it (Proof/Result.lean, Proof/Value.lean). Proof/Ref.lean reads the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem algebraic : Cert.algebraic_KernelIdeal_ReferenceIdeal := by
  intro m g m' g' _ hin
  have hout : ∀ c, Cert.KernelIdealProof.outFinal m g c = Cert.ReferenceIdealProof.refV
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) := by
    intro c
    funext i
    obtain ⟨t, o, rfl⟩ : ∃ (t o : Fin 512), i = ix2 t o := ⟨i 0, i 1, by
      funext a
      match a with
      | ⟨0, _⟩ => rfl
      | ⟨1, _⟩ => rfl⟩
    exact (Cert.KernelIdealProof.outFinal_apply m g _ _ _ (fun c => (hin c).1) (fun c => (hin c).2.2.1) (fun c => (hin c).2.2.2) c t o).trans
      (Cert.ReferenceIdealProof.refV_apply _ _ _ t o).symm
  refine ⟨_, (θ_run Cert.KernelIdeal.defs _ _).mono (fun r h c => ⟨(h.1 c).1.trans (hout c), (h.1 c).2⟩)
    (Cert.KernelIdealProof.run_arrays (F := Ideal) m g), ?_⟩
  exact (θ_run Cert.ReferenceIdeal.defs _ _).mono (fun r h => ⟨(h 0).1, (h 0).2⟩) (Cert.ReferenceIdeal.Value.run (F := Ideal) m' g')

theorem claim : Cert.Claim := ⟨Cert.Kernel.Gen.facts, Cert.KernelIdeal.Gen.facts, Cert.ReferenceIdeal.Gen.facts,
  Cert.KernelIdealProof.frame_kernel, Cert.KernelIdealProof.frame_kernelIdeal, frame_referenceIdeal, trivial, algebraic⟩

end Cert.Proof

end
